-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S2000x4 : Shape := ⟨2, ![2000, 4]⟩
abbrev S2000x2 : Shape := ⟨2, ![2000, 2]⟩
abbrev S2048x4 : Shape := ⟨2, ![2048, 4]⟩
abbrev S2048x1 : Shape := ⟨2, ![2048, 1]⟩
abbrev S2048 : Shape := ⟨1, ![2048]⟩
abbrev S16x128 : Shape := ⟨2, ![16, 128]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩
abbrev S128x128 : Shape := ⟨2, ![128, 128]⟩
abbrev S1x128 : Shape := ⟨2, ![1, 128]⟩
abbrev S128x1 : Shape := ⟨2, ![128, 1]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 136
  | .vmem => 10
  | .smem => 0
  | _ => 0

abbrev hbmTy0_0 (i : Nat) : BufTy := match i % 128 with
  | 0 => ⟨S20000x4, .f32⟩
  | 1 => ⟨S20000, .f32⟩
  | 2 => ⟨S20000, .i32⟩
  | 3 => ⟨S2000, .f32⟩
  | 4 => ⟨S2000, .i32⟩
  | 5 => ⟨S_, .i32⟩
  | 6 => ⟨S2000, .i32⟩
  | 7 => ⟨S2000, .i1⟩
  | 8 => ⟨S_, .i32⟩
  | 9 => ⟨S2000, .i32⟩
  | 10 => ⟨S2000, .i32⟩
  | 11 => ⟨S2000, .i32⟩
  | 12 => ⟨S2000x1, .i32⟩
  | 13 => ⟨S2000x4, .f32⟩
  | 14 => ⟨S_, .i32⟩
  | 15 => ⟨S2000, .i32⟩
  | 16 => ⟨S2000, .i1⟩
  | 17 => ⟨S_, .i32⟩
  | 18 => ⟨S2000, .i32⟩
  | 19 => ⟨S2000, .i32⟩
  | 20 => ⟨S2000, .i32⟩
  | 21 => ⟨S2000x1, .i32⟩
  | 22 => ⟨S2000, .i32⟩
  | 23 => ⟨S2000x2, .f32⟩
  | 24 => ⟨S_, .f32⟩
  | 25 => ⟨S_, .f32⟩
  | 26 => ⟨S_, .f32⟩
  | 27 => ⟨S2000x2, .f32⟩
  | 28 => ⟨S2000x2, .f32⟩
  | 29 => ⟨S_, .f32⟩
  | 30 => ⟨S2000x2, .f32⟩
  | 31 => ⟨S2000x2, .f32⟩
  | 32 => ⟨S2000x2, .f32⟩
  | 33 => ⟨S_, .f32⟩
  | 34 => ⟨S_, .f32⟩
  | 35 => ⟨S_, .f32⟩
  | 36 => ⟨S2000x2, .f32⟩
  | 37 => ⟨S2000x2, .f32⟩
  | 38 => ⟨S_, .f32⟩
  | 39 => ⟨S2000x2, .f32⟩
  | 40 => ⟨S2000x2, .f32⟩
  | 41 => ⟨S2000x1, .f32⟩
  | 42 => ⟨S2000, .f32⟩
  | 43 => ⟨S2000x1, .f32⟩
  | 44 => ⟨S2000, .f32⟩
  | 45 => ⟨S2000x1, .f32⟩
  | 46 => ⟨S2000, .f32⟩
  | 47 => ⟨S2000x1, .f32⟩
  | 48 => ⟨S2000, .f32⟩
  | 49 => ⟨S2000x1, .f32⟩
  | 50 => ⟨S2000x1, .f32⟩
  | 51 => ⟨S2000x1, .f32⟩
  | 52 => ⟨S2000x1, .f32⟩
  | 53 => ⟨S2000x4, .f32⟩
  | 54 => ⟨S2000x1, .f32⟩
  | 55 => ⟨S2000, .f32⟩
  | 56 => ⟨S2000x1, .f32⟩
  | 57 => ⟨S2000, .f32⟩
  | 58 => ⟨S2000, .f32⟩
  | 59 => ⟨S2000x1, .f32⟩
  | 60 => ⟨S2000, .f32⟩
  | 61 => ⟨S2000x1, .f32⟩
  | 62 => ⟨S2000, .f32⟩
  | 63 => ⟨S2000, .f32⟩
  | 64 => ⟨S_, .f32⟩
  | 65 => ⟨S2000, .f32⟩
  | 66 => ⟨S2000, .i1⟩
  | 67 => ⟨S_, .f32⟩
  | 68 => ⟨S2000, .f32⟩
  | 69 => ⟨S2000, .i1⟩
  | 70 => ⟨S2000, .i1⟩
  | 71 => ⟨S_, .f32⟩
  | 72 => ⟨S_, .f32⟩
  | 73 => ⟨S2000, .f32⟩
  | 74 => ⟨S2000, .f32⟩
  | 75 => ⟨S_, .f32⟩
  | 76 => ⟨S_, .f32⟩
  | 77 => ⟨S2000, .f32⟩
  | 78 => ⟨S_, .f32⟩
  | 79 => ⟨S_, .f32⟩
  | 80 => ⟨S2000, .f32⟩
  | 81 => ⟨S2000, .f32⟩
  | 82 => ⟨S2000x1, .f32⟩
  | 83 => ⟨S2000x4, .f32⟩
  | 84 => ⟨S2000x4, .f32⟩
  | 85 => ⟨S_, .i32⟩
  | 86 => ⟨S_, .f32⟩
  | 87 => ⟨S2048x4, .f32⟩
  | 88 => ⟨S2048x1, .f32⟩
  | 89 => ⟨S2048, .f32⟩
  | 90 => ⟨S2048x1, .f32⟩
  | 91 => ⟨S2048x1, .f32⟩
  | 92 => ⟨S2048, .f32⟩
  | 93 => ⟨S2048x1, .f32⟩
  | 94 => ⟨S2048x1, .f32⟩
  | 95 => ⟨S2048, .f32⟩
  | 96 => ⟨S2048x1, .f32⟩
  | 97 => ⟨S2048x1, .f32⟩
  | 98 => ⟨S2048, .f32⟩
  | 99 => ⟨S2048x1, .f32⟩
  | 100 => ⟨S2048x1, .f32⟩
  | 101 => ⟨S2048, .f32⟩
  | 102 => ⟨S16x128, .f32⟩
  | 103 => ⟨S2048x1, .f32⟩
  | 104 => ⟨S2048, .f32⟩
  | 105 => ⟨S16x128, .f32⟩
  | 106 => ⟨S2048x1, .f32⟩
  | 107 => ⟨S2048, .f32⟩
  | 108 => ⟨S16x128, .f32⟩
  | 109 => ⟨S2048x1, .f32⟩
  | 110 => ⟨S2048, .f32⟩
  | 111 => ⟨S16x128, .f32⟩
  | 112 => ⟨S16x128, .f32⟩
  | 113 => ⟨S2048, .f32⟩
  | 114 => ⟨S2000, .f32⟩
  | 115 => ⟨S_, .f32⟩
  | 116 => ⟨S2000, .f32⟩
  | 117 => ⟨S2000, .i1⟩
  | 118 => ⟨S2000, .i1⟩
  | 119 => ⟨S_, .f32⟩
  | 120 => ⟨S_, .f32⟩
  | 121 => ⟨S2000, .f32⟩
  | 122 => ⟨S2000, .f32⟩
  | 123 => ⟨S1000, .f32⟩
  | 124 => ⟨S1000, .i32⟩
  | 125 => ⟨S_, .i32⟩
  | 126 => ⟨S1000, .i32⟩
  | 127 => ⟨S1000, .i1⟩
  | _ => ⟨S20000x4, .f32⟩

abbrev hbmTy0_1 (i : Nat) : BufTy := match i % 128 with
  | 0 => ⟨S_, .i32⟩
  | 1 => ⟨S1000, .i32⟩
  | 2 => ⟨S1000, .i32⟩
  | 3 => ⟨S1000, .i32⟩
  | 4 => ⟨S1000x1, .i32⟩
  | 5 => ⟨S1000x4, .f32⟩
  | 6 => ⟨S1000x1, .f32⟩
  | 7 => ⟨S1000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | .local _ .vmem, ⟨0, _⟩ => ⟨S2048x1, .f32⟩
  | .local _ .vmem, ⟨1, _⟩ => ⟨S2048x1, .f32⟩
  | .local _ .vmem, ⟨2, _⟩ => ⟨S2048x1, .f32⟩
  | .local _ .vmem, ⟨3, _⟩ => ⟨S2048x1, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S128x128, .f32⟩
  | _, _ => ⟨S20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_values : Ref sig .tc := ⟨.hbm, 3, rfl⟩
abbrev main_call0_indices : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_1 : Ref sig .tc := ⟨.hbm, 14, rfl⟩
abbrev main_call0_v7 : Ref sig .tc := ⟨.hbm, 15, rfl⟩
abbrev main_call0_v8 : Ref sig .tc := ⟨.hbm, 16, rfl⟩
abbrev main_call0_c_2 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_cst_3 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_v15 : Ref sig .tc := ⟨.hbm, 31, rfl⟩
abbrev main_call0_v16 : Ref sig .tc := ⟨.hbm, 32, rfl⟩
abbrev main_call0_cst_4 : Ref sig .tc := ⟨.hbm, 33, rfl⟩
abbrev main_call0_cst_5 : Ref sig .tc := ⟨.hbm, 34, rfl⟩
abbrev main_call0_call1_v0 : Ref sig .tc := ⟨.hbm, 35, rfl⟩
abbrev main_call0_call1_v1 : Ref sig .tc := ⟨.hbm, 36, rfl⟩
abbrev main_call0_call1_v2 : Ref sig .tc := ⟨.hbm, 37, rfl⟩
abbrev main_call0_call1_v3 : Ref sig .tc := ⟨.hbm, 38, rfl⟩
abbrev main_call0_call1_v4 : Ref sig .tc := ⟨.hbm, 39, rfl⟩
abbrev main_call0_v17 : Ref sig .tc := ⟨.hbm, 40, rfl⟩
abbrev main_call0_v18 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_v25 : Ref sig .tc := ⟨.hbm, 48, rfl⟩
abbrev main_call0_v26 : Ref sig .tc := ⟨.hbm, 49, rfl⟩
abbrev main_call0_v27 : Ref sig .tc := ⟨.hbm, 50, rfl⟩
abbrev main_call0_v28 : Ref sig .tc := ⟨.hbm, 51, rfl⟩
abbrev main_call0_v29 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_call0_v37 : Ref sig .tc := ⟨.hbm, 60, rfl⟩
abbrev main_call0_v38 : Ref sig .tc := ⟨.hbm, 61, rfl⟩
abbrev main_call0_v39 : Ref sig .tc := ⟨.hbm, 62, rfl⟩
abbrev main_call0_v40 : Ref sig .tc := ⟨.hbm, 63, rfl⟩
abbrev main_call0_cst_6 : Ref sig .tc := ⟨.hbm, 64, rfl⟩
abbrev main_call0_v41 : Ref sig .tc := ⟨.hbm, 65, rfl⟩
abbrev main_call0_v42 : Ref sig .tc := ⟨.hbm, 66, rfl⟩
abbrev main_call0_cst_7 : Ref sig .tc := ⟨.hbm, 67, rfl⟩
abbrev main_call0_v43 : Ref sig .tc := ⟨.hbm, 68, rfl⟩
abbrev main_call0_v44 : Ref sig .tc := ⟨.hbm, 69, rfl⟩
abbrev main_call0_v45 : Ref sig .tc := ⟨.hbm, 70, rfl⟩
abbrev main_call0_cst_8 : Ref sig .tc := ⟨.hbm, 71, rfl⟩
abbrev main_call0_call2_v0 : Ref sig .tc := ⟨.hbm, 72, rfl⟩
abbrev main_call0_call2_v1 : Ref sig .tc := ⟨.hbm, 73, rfl⟩
abbrev main_call0_v46 : Ref sig .tc := ⟨.hbm, 74, rfl⟩
abbrev main_call0_cst_9 : Ref sig .tc := ⟨.hbm, 75, rfl⟩
abbrev main_call0_v47 : Ref sig .tc := ⟨.hbm, 76, rfl⟩
abbrev main_call0_v48 : Ref sig .tc := ⟨.hbm, 77, rfl⟩
abbrev main_call0_cst_10 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_call0_c_11 : Ref sig .tc := ⟨.hbm, 85, rfl⟩
abbrev main_call0_call3_v0 : Ref sig .tc := ⟨.hbm, 86, rfl⟩
abbrev main_call0_v55 : Ref sig .tc := ⟨.hbm, 87, rfl⟩
abbrev main_call0_v56 : Ref sig .tc := ⟨.hbm, 88, rfl⟩
abbrev main_call0_v57 : Ref sig .tc := ⟨.hbm, 89, rfl⟩
abbrev main_call0_v58 : Ref sig .tc := ⟨.hbm, 90, rfl⟩
abbrev main_call0_v59 : Ref sig .tc := ⟨.hbm, 91, rfl⟩
abbrev main_call0_v60 : Ref sig .tc := ⟨.hbm, 92, rfl⟩
abbrev main_call0_v61 : Ref sig .tc := ⟨.hbm, 93, rfl⟩
abbrev main_call0_v62 : Ref sig .tc := ⟨.hbm, 94, rfl⟩
abbrev main_call0_v63 : Ref sig .tc := ⟨.hbm, 95, rfl⟩
abbrev main_call0_v64 : Ref sig .tc := ⟨.hbm, 96, rfl⟩
abbrev main_call0_v65 : Ref sig .tc := ⟨.hbm, 97, rfl⟩
abbrev main_call0_v66 : Ref sig .tc := ⟨.hbm, 98, rfl⟩
abbrev main_call0_v67 : Ref sig .tc := ⟨.hbm, 99, rfl⟩
abbrev main_call0_v68 : Ref sig .tc := ⟨.hbm, 100, rfl⟩
abbrev main_call0_v69 : Ref sig .tc := ⟨.hbm, 101, rfl⟩
abbrev main_call0_v70 : Ref sig .tc := ⟨.hbm, 102, rfl⟩
abbrev main_call0_v71 : Ref sig .tc := ⟨.hbm, 103, rfl⟩
abbrev main_call0_v72 : Ref sig .tc := ⟨.hbm, 104, rfl⟩
abbrev main_call0_v73 : Ref sig .tc := ⟨.hbm, 105, rfl⟩
abbrev main_call0_v74 : Ref sig .tc := ⟨.hbm, 106, rfl⟩
abbrev main_call0_v75 : Ref sig .tc := ⟨.hbm, 107, rfl⟩
abbrev main_call0_v76 : Ref sig .tc := ⟨.hbm, 108, rfl⟩
abbrev main_call0_v77 : Ref sig .tc := ⟨.hbm, 109, rfl⟩
abbrev main_call0_v78 : Ref sig .tc := ⟨.hbm, 110, rfl⟩
abbrev main_call0_v79 : Ref sig .tc := ⟨.hbm, 111, rfl⟩
abbrev main_call0_v80 : Ref sig .tc := ⟨.hbm, 112, rfl⟩
abbrev main_call0_v81 : Ref sig .tc := ⟨.hbm, 113, rfl⟩
abbrev main_call0_v82 : Ref sig .tc := ⟨.hbm, 114, rfl⟩
abbrev main_call0_cst_12 : Ref sig .tc := ⟨.hbm, 115, rfl⟩
abbrev main_call0_v83 : Ref sig .tc := ⟨.hbm, 116, rfl⟩
abbrev main_call0_v84 : Ref sig .tc := ⟨.hbm, 117, rfl⟩
abbrev main_call0_v85 : Ref sig .tc := ⟨.hbm, 118, rfl⟩
abbrev main_call0_cst_13 : Ref sig .tc := ⟨.hbm, 119, rfl⟩
abbrev main_call0_call4_v0 : Ref sig .tc := ⟨.hbm, 120, rfl⟩
abbrev main_call0_call4_v1 : Ref sig .tc := ⟨.hbm, 121, rfl⟩
abbrev main_call0_v86 : Ref sig .tc := ⟨.hbm, 122, rfl⟩
abbrev main_call0_values_14 : Ref sig .tc := ⟨.hbm, 123, rfl⟩
abbrev main_call0_indices_15 : Ref sig .tc := ⟨.hbm, 124, rfl⟩
abbrev main_call0_c_16 : Ref sig .tc := ⟨.hbm, 125, rfl⟩
abbrev main_call0_v87 : Ref sig .tc := ⟨.hbm, 126, rfl⟩
abbrev main_call0_v88 : Ref sig .tc := ⟨.hbm, 127, rfl⟩
abbrev main_call0_c_17 : Ref sig .tc := ⟨.hbm, 128, rfl⟩
abbrev main_call0_v89 : Ref sig .tc := ⟨.hbm, 129, rfl⟩
abbrev main_call0_v90 : Ref sig .tc := ⟨.hbm, 130, rfl⟩
abbrev main_call0_v91 : Ref sig .tc := ⟨.hbm, 131, rfl⟩
abbrev main_call0_v92 : Ref sig .tc := ⟨.hbm, 132, rfl⟩
abbrev main_call0_v93 : Ref sig .tc := ⟨.hbm, 133, rfl⟩
abbrev main_call0_v94 : Ref sig .tc := ⟨.hbm, 134, rfl⟩
abbrev main_v0 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v4 : BitVec 32 := Scalar.muli arg10 c128_i32
  let v5 : Index := Scalar.indexCast v4
  let c0_2 : Index := 0#32
  ![v5.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let v23 : Index := Scalar.indexCast arg10
  let c0_9 : Index := 0#32
  ![v23.toNat, 0]
@[reducible] def k0_t2_loop : Scf.Loop 32 :=
  let c0_i32_19 : BitVec 32 := 0#32
  let c128_i32_20 : BitVec 32 := 128#32
  let v70 : BitVec 32 := Scalar.addi c0_i32_19 c128_i32_20
  let c1_i32_21 : BitVec 32 := 1#32
  ⟨c0_i32_19, v70, c1_i32_21⟩
def k0_off3 (k0_t2 : Fin k0_t2_loop.trips) : Fin 2 → Nat :=
  let c0_i32_19 : BitVec 32 := 0#32
  let c1_i32_21 : BitVec 32 := 1#32
  let arg11 : BitVec 32 := Scf.iv c0_i32_19 c1_i32_21 k0_t2
  let v82 : Index := Scalar.indexCast arg11
  let c0_30 : Index := 0#32
  ![v82.toNat, 0]
@[reducible] def k0_t3_loop (k0_t1 : Fin k0_t1_loop.trips) : Scf.Loop 32 :=
  let c0_i32 : BitVec 32 := 0#32
  let c1_i32 : BitVec 32 := 1#32
  let arg10 : BitVec 32 := Scf.iv c0_i32 c1_i32 k0_t1
  let c1_i32_24 : BitVec 32 := 1#32
  let v74 : BitVec 32 := Scalar.addi arg10 c1_i32_24
  let c16_i32_25 : BitVec 32 := 16#32
  let v75 : BitVec 32 := Scalar.subi c16_i32_25 v74
  let c1_i32_27 : BitVec 32 := 1#32
  let v77 : BitVec 32 := Scalar.divsi v75 c1_i32_27
  let v78 : BitVec 32 := Scalar.muli v77 c1_i32_27
  let v79 : BitVec 32 := Scalar.addi v74 v78
  let c1_i32_28 : BitVec 32 := 1#32
  ⟨v74, v79, c1_i32_28⟩
def k0_off4 (k0_t1 : Fin k0_t1_loop.trips) (k0_t3 : Fin (k0_t3_loop k0_t1).trips) : Fin 2 → Nat :=
  let c0_i32 : BitVec 32 := 0#32
  let c1_i32 : BitVec 32 := 1#32
  let arg10 : BitVec 32 := Scf.iv c0_i32 c1_i32 k0_t1
  let c1_i32_24 : BitVec 32 := 1#32
  let v74 : BitVec 32 := Scalar.addi arg10 c1_i32_24
  let c1_i32_28 : BitVec 32 := 1#32
  let arg11 : BitVec 32 := Scf.iv v74 c1_i32_28 k0_t3
  let v82 : Index := Scalar.indexCast arg11
  let c0_30 : Index := 0#32
  ![v82.toNat, 0]
@[reducible] def k0_t4_loop (k0_t1 : Fin k0_t1_loop.trips) : Scf.Loop 32 :=
  let c0_i32 : BitVec 32 := 0#32
  let c1_i32 : BitVec 32 := 1#32
  let arg10 : BitVec 32 := Scf.iv c0_i32 c1_i32 k0_t1
  let c1_i32_24 : BitVec 32 := 1#32
  let v74 : BitVec 32 := Scalar.addi arg10 c1_i32_24
  let c16_i32_25 : BitVec 32 := 16#32
  let v75 : BitVec 32 := Scalar.subi c16_i32_25 v74
  let c1_i32_27 : BitVec 32 := 1#32
  let v77 : BitVec 32 := Scalar.divsi v75 c1_i32_27
  let v78 : BitVec 32 := Scalar.muli v77 c1_i32_27
  let v79 : BitVec 32 := Scalar.addi v74 v78
  let v76 : BitVec 32 := Scalar.addi v74 v75
  let c1_i32_29 : BitVec 32 := 1#32
  ⟨v79, v76, c1_i32_29⟩
def k0_off5 (k0_t1 : Fin k0_t1_loop.trips) (k0_t4 : Fin (k0_t4_loop k0_t1).trips) : Fin 2 → Nat :=
  let c0_i32 : BitVec 32 := 0#32
  let c1_i32 : BitVec 32 := 1#32
  let arg10 : BitVec 32 := Scf.iv c0_i32 c1_i32 k0_t1
  let c1_i32_24 : BitVec 32 := 1#32
  let v74 : BitVec 32 := Scalar.addi arg10 c1_i32_24
  let c16_i32_25 : BitVec 32 := 16#32
  let v75 : BitVec 32 := Scalar.subi c16_i32_25 v74
  let c1_i32_27 : BitVec 32 := 1#32
  let v77 : BitVec 32 := Scalar.divsi v75 c1_i32_27
  let v78 : BitVec 32 := Scalar.muli v77 c1_i32_27
  let v79 : BitVec 32 := Scalar.addi v74 v78
  let c1_i32_29 : BitVec 32 := 1#32
  let arg11 : BitVec 32 := Scf.iv v79 c1_i32_29 k0_t4
  let v82 : Index := Scalar.indexCast arg11
  let c0_30 : Index := 0#32
  ![v82.toNat, 0]
abbrev stage0_0 : Fin 1 → Memref sig .tc .vmem S2048x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S20000x4 : Shape := ⟨2, ![20000, 4]⟩
abbrev S20000 : Shape := ⟨1, ![20000]⟩
abbrev S2000 : Shape := ⟨1, ![2000]⟩
abbrev S_ : Shape := ⟨0, ![]⟩
abbrev S2000x1 : Shape := ⟨2, ![2000, 1]⟩
abbrev S2000x4 : Shape := ⟨2, ![2000, 4]⟩
abbrev S2000x2 : Shape := ⟨2, ![2000, 2]⟩
abbrev S2000x1x2 : Shape := ⟨3, ![2000, 1, 2]⟩
abbrev S1x2000x2 : Shape := ⟨3, ![1, 2000, 2]⟩
abbrev S2000x2000x2 : Shape := ⟨3, ![2000, 2000, 2]⟩
abbrev S2000x2000x1 : Shape := ⟨3, ![2000, 2000, 1]⟩
abbrev S2000x2000 : Shape := ⟨2, ![2000, 2000]⟩
abbrev S1x2000 : Shape := ⟨2, ![1, 2000]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 210
  | .vmem => 0
  | .smem => 0
  | _ => 0

abbrev hbmTy0_0 (i : Nat) : BufTy := match i % 128 with
  | 0 => ⟨S20000x4, .f32⟩
  | 1 => ⟨S20000, .f32⟩
  | 2 => ⟨S20000, .i32⟩
  | 3 => ⟨S2000, .f32⟩
  | 4 => ⟨S2000, .i32⟩
  | 5 => ⟨S_, .i32⟩
  | 6 => ⟨S2000, .i32⟩
  | 7 => ⟨S2000, .i1⟩
  | 8 => ⟨S_, .i32⟩
  | 9 => ⟨S2000, .i32⟩
  | 10 => ⟨S2000, .i32⟩
  | 11 => ⟨S2000, .i32⟩
  | 12 => ⟨S2000x1, .i32⟩
  | 13 => ⟨S2000x4, .f32⟩
  | 14 => ⟨S_, .i32⟩
  | 15 => ⟨S2000, .i32⟩
  | 16 => ⟨S2000, .i1⟩
  | 17 => ⟨S_, .i32⟩
  | 18 => ⟨S2000, .i32⟩
  | 19 => ⟨S2000, .i32⟩
  | 20 => ⟨S2000, .i32⟩
  | 21 => ⟨S2000x1, .i32⟩
  | 22 => ⟨S2000, .i32⟩
  | 23 => ⟨S2000x2, .f32⟩
  | 24 => ⟨S_, .f32⟩
  | 25 => ⟨S_, .f32⟩
  | 26 => ⟨S_, .f32⟩
  | 27 => ⟨S2000x2, .f32⟩
  | 28 => ⟨S2000x2, .f32⟩
  | 29 => ⟨S_, .f32⟩
  | 30 => ⟨S2000x2, .f32⟩
  | 31 => ⟨S2000x2, .f32⟩
  | 32 => ⟨S2000x2, .f32⟩
  | 33 => ⟨S_, .f32⟩
  | 34 => ⟨S_, .f32⟩
  | 35 => ⟨S_, .f32⟩
  | 36 => ⟨S2000x2, .f32⟩
  | 37 => ⟨S2000x2, .f32⟩
  | 38 => ⟨S_, .f32⟩
  | 39 => ⟨S2000x2, .f32⟩
  | 40 => ⟨S2000x2, .f32⟩
  | 41 => ⟨S2000x1, .f32⟩
  | 42 => ⟨S2000, .f32⟩
  | 43 => ⟨S2000x1, .f32⟩
  | 44 => ⟨S2000, .f32⟩
  | 45 => ⟨S2000x1, .f32⟩
  | 46 => ⟨S2000, .f32⟩
  | 47 => ⟨S2000x1, .f32⟩
  | 48 => ⟨S2000, .f32⟩
  | 49 => ⟨S2000x1, .f32⟩
  | 50 => ⟨S2000x1, .f32⟩
  | 51 => ⟨S2000x1, .f32⟩
  | 52 => ⟨S2000x1, .f32⟩
  | 53 => ⟨S2000x4, .f32⟩
  | 54 => ⟨S2000x1, .f32⟩
  | 55 => ⟨S2000, .f32⟩
  | 56 => ⟨S2000x1, .f32⟩
  | 57 => ⟨S2000, .f32⟩
  | 58 => ⟨S2000, .f32⟩
  | 59 => ⟨S2000x1, .f32⟩
  | 60 => ⟨S2000, .f32⟩
  | 61 => ⟨S2000x1, .f32⟩
  | 62 => ⟨S2000, .f32⟩
  | 63 => ⟨S2000, .f32⟩
  | 64 => ⟨S_, .f32⟩
  | 65 => ⟨S2000, .f32⟩
  | 66 => ⟨S2000, .i1⟩
  | 67 => ⟨S_, .f32⟩
  | 68 => ⟨S2000, .f32⟩
  | 69 => ⟨S2000, .i1⟩
  | 70 => ⟨S2000, .i1⟩
  | 71 => ⟨S_, .f32⟩
  | 72 => ⟨S_, .f32⟩
  | 73 => ⟨S2000, .f32⟩
  | 74 => ⟨S2000, .f32⟩
  | 75 => ⟨S_, .f32⟩
  | 76 => ⟨S_, .f32⟩
  | 77 => ⟨S2000, .f32⟩
  | 78 => ⟨S_, .f32⟩
  | 79 => ⟨S_, .f32⟩
  | 80 => ⟨S2000, .f32⟩
  | 81 => ⟨S2000, .f32⟩
  | 82 => ⟨S2000x1, .f32⟩
  | 83 => ⟨S2000x4, .f32⟩
  | 84 => ⟨S2000x4, .f32⟩
  | 85 => ⟨S2000x1, .f32⟩
  | 86 => ⟨S2000, .f32⟩
  | 87 => ⟨S2000x1, .f32⟩
  | 88 => ⟨S2000, .f32⟩
  | 89 => ⟨S2000, .f32⟩
  | 90 => ⟨S2000x1, .f32⟩
  | 91 => ⟨S2000, .f32⟩
  | 92 => ⟨S2000x1, .f32⟩
  | 93 => ⟨S2000, .f32⟩
  | 94 => ⟨S2000, .f32⟩
  | 95 => ⟨S2000, .f32⟩
  | 96 => ⟨S2000x1, .f32⟩
  | 97 => ⟨S2000, .f32⟩
  | 98 => ⟨S2000x1, .f32⟩
  | 99 => ⟨S2000, .f32⟩
  | 100 => ⟨S2000, .f32⟩
  | 101 => ⟨S2000x1, .f32⟩
  | 102 => ⟨S2000, .f32⟩
  | 103 => ⟨S2000x1, .f32⟩
  | 104 => ⟨S2000, .f32⟩
  | 105 => ⟨S2000, .f32⟩
  | 106 => ⟨S2000, .f32⟩
  | 107 => ⟨S2000x2, .f32⟩
  | 108 => ⟨S2000x1x2, .f32⟩
  | 109 => ⟨S2000x2, .f32⟩
  | 110 => ⟨S1x2000x2, .f32⟩
  | 111 => ⟨S2000x2000x2, .f32⟩
  | 112 => ⟨S2000x2000x2, .f32⟩
  | 113 => ⟨S2000x2000x2, .f32⟩
  | 114 => ⟨S2000x2, .f32⟩
  | 115 => ⟨S2000x1x2, .f32⟩
  | 116 => ⟨S2000x2, .f32⟩
  | 117 => ⟨S1x2000x2, .f32⟩
  | 118 => ⟨S2000x2000x2, .f32⟩
  | 119 => ⟨S2000x2000x2, .f32⟩
  | 120 => ⟨S2000x2000x2, .f32⟩
  | 121 => ⟨S2000x2000x2, .f32⟩
  | 122 => ⟨S_, .f32⟩
  | 123 => ⟨S_, .f32⟩
  | 124 => ⟨S2000x2000x2, .f32⟩
  | 125 => ⟨S2000x2000x2, .f32⟩
  | 126 => ⟨S2000x2000x1, .f32⟩
  | 127 => ⟨S2000x2000, .f32⟩
  | _ => ⟨S20000x4, .f32⟩

abbrev hbmTy0_1 (i : Nat) : BufTy := match i % 128 with
  | 0 => ⟨S2000x2000x1, .f32⟩
  | 1 => ⟨S2000x2000, .f32⟩
  | 2 => ⟨S2000x2000, .f32⟩
  | 3 => ⟨S2000x1, .f32⟩
  | 4 => ⟨S1x2000, .f32⟩
  | 5 => ⟨S2000x2000, .f32⟩
  | 6 => ⟨S2000x2000, .f32⟩
  | 7 => ⟨S2000x2000, .f32⟩
  | 8 => ⟨S2000x2000, .f32⟩
  | 9 => ⟨S_, .f32⟩
  | 10 => ⟨S2000x2000, .f32⟩
  | 11 => ⟨S2000x2000, .f32⟩
  | 12 => ⟨S2000x2000, .f32⟩
  | 13 => ⟨S2000, .i32⟩
  | 14 => ⟨S_, .i1⟩
  | 15 => ⟨S2000, .i1⟩
  | 16 => ⟨S_, .i32⟩
  | 17 => ⟨S_, .i32⟩
  | 18 => ⟨S2000x2000, .f32⟩
  | 19 => ⟨S2000, .i32⟩
  | 20 => ⟨S_, .i32⟩
  | 21 => ⟨S_, .i32⟩
  | 22 => ⟨S2000, .i1⟩
  | 23 => ⟨S_, .i32⟩
  | 24 => ⟨S_, .i1⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1, .i1⟩
  | 34 => ⟨S_, .i1⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x2000, .f32⟩
  | 50 => ⟨S2000, .f32⟩
  | 51 => ⟨S_, .f32⟩
  | 52 => ⟨S2000, .f32⟩
  | 53 => ⟨S2000, .i1⟩
  | 54 => ⟨S2000, .i1⟩
  | 55 => ⟨S2000, .i1⟩
  | 56 => ⟨S_, .i32⟩
  | 57 => ⟨S2000, .i32⟩
  | 58 => ⟨S2000, .i1⟩
  | 59 => ⟨S2000, .i1⟩
  | 60 => ⟨S2000, .i1⟩
  | 61 => ⟨S2000, .i1⟩
  | 62 => ⟨S_, .i32⟩
  | 63 => ⟨S_, .i32⟩
  | 64 => ⟨S2000, .i1⟩
  | 65 => ⟨S_, .f32⟩
  | 66 => ⟨S_, .f32⟩
  | 67 => ⟨S2000, .f32⟩
  | 68 => ⟨S2000, .f32⟩
  | 69 => ⟨S1000, .f32⟩
  | 70 => ⟨S1000, .i32⟩
  | 71 => ⟨S_, .i32⟩
  | 72 => ⟨S1000, .i32⟩
  | 73 => ⟨S1000, .i1⟩
  | 74 => ⟨S_, .i32⟩
  | 75 => ⟨S1000, .i32⟩
  | 76 => ⟨S1000, .i32⟩
  | 77 => ⟨S1000, .i32⟩
  | 78 => ⟨S1000x1, .i32⟩
  | 79 => ⟨S1000x4, .f32⟩
  | 80 => ⟨S1000x1, .f32⟩
  | 81 => ⟨S1000x5, .f32⟩
  | _ => ⟨S20000x4, .f32⟩

abbrev hbmTy (i : Nat) : BufTy := match i / 128 with
  | 0 => hbmTy0_0 i
  | 1 => hbmTy0_1 i
  | _ => ⟨S20000x4, .f32⟩

abbrev bufTy : (tb : Table) → Fin (tcTables nBuf tb) → BufTy
  | .hbm, ⟨i, _⟩ => hbmTy i
  | _, _ => ⟨S20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_values : Ref sig .tc := ⟨.hbm, 3, rfl⟩
abbrev main_indices : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_cst_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_cst_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_11 : Ref sig .tc := ⟨.hbm, 122, rfl⟩
abbrev main_call3_v0 : Ref sig .tc := ⟨.hbm, 123, rfl⟩
abbrev main_call3_v1 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_12 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_c_13 : Ref sig .tc := ⟨.hbm, 142, rfl⟩
abbrev main_v108 : Ref sig .tc := ⟨.hbm, 143, rfl⟩
abbrev main_c_14 : Ref sig .tc := ⟨.hbm, 144, rfl⟩
abbrev main_c_15 : Ref sig .tc := ⟨.hbm, 145, rfl⟩
abbrev main_v109_0 : Ref sig .tc := ⟨.hbm, 146, rfl⟩
abbrev main_v109_1 : Ref sig .tc := ⟨.hbm, 147, rfl⟩
abbrev main_v109_2 : Ref sig .tc := ⟨.hbm, 148, rfl⟩
abbrev main_v109_3 : Ref sig .tc := ⟨.hbm, 149, rfl⟩
abbrev main_v109_4 : Ref sig .tc := ⟨.hbm, 150, rfl⟩
abbrev main_while0c_c_25 : Ref sig .tc := ⟨.hbm, 151, rfl⟩
abbrev main_while0c_v121 : Ref sig .tc := ⟨.hbm, 152, rfl⟩
abbrev main_while0b_c_25 : Ref sig .tc := ⟨.hbm, 153, rfl⟩
abbrev main_while0b_v121 : Ref sig .tc := ⟨.hbm, 154, rfl⟩
abbrev main_while0b_c_26 : Ref sig .tc := ⟨.hbm, 155, rfl⟩
abbrev main_while0b_v122 : Ref sig .tc := ⟨.hbm, 156, rfl⟩
abbrev main_while0b_v123 : Ref sig .tc := ⟨.hbm, 157, rfl⟩
abbrev main_while0b_c_27 : Ref sig .tc := ⟨.hbm, 158, rfl⟩
abbrev main_while0b_v124 : Ref sig .tc := ⟨.hbm, 159, rfl⟩
abbrev main_while0b_v125 : Ref sig .tc := ⟨.hbm, 160, rfl⟩
abbrev main_while0b_v126 : Ref sig .tc := ⟨.hbm, 161, rfl⟩
abbrev main_while0b_v127 : Ref sig .tc := ⟨.hbm, 162, rfl⟩
abbrev main_while0b_v128 : Ref sig .tc := ⟨.hbm, 163, rfl⟩
abbrev main_while0b_c_28 : Ref sig .tc := ⟨.hbm, 164, rfl⟩
abbrev main_while0b_v129 : Ref sig .tc := ⟨.hbm, 165, rfl⟩
abbrev main_while0b_c_29 : Ref sig .tc := ⟨.hbm, 166, rfl⟩
abbrev main_while0b_v130 : Ref sig .tc := ⟨.hbm, 167, rfl⟩
abbrev main_while0b_v131 : Ref sig .tc := ⟨.hbm, 168, rfl⟩
abbrev main_while0b_c_30 : Ref sig .tc := ⟨.hbm, 169, rfl⟩
abbrev main_while0b_c_31 : Ref sig .tc := ⟨.hbm, 170, rfl⟩
abbrev main_while0b_v132 : Ref sig .tc := ⟨.hbm, 171, rfl⟩
abbrev main_while0b_c_32 : Ref sig .tc := ⟨.hbm, 172, rfl⟩
abbrev main_while0b_c_33 : Ref sig .tc := ⟨.hbm, 173, rfl⟩
abbrev main_while0b_v133 : Ref sig .tc := ⟨.hbm, 174, rfl⟩
abbrev main_while0b_c_34 : Ref sig .tc := ⟨.hbm, 175, rfl⟩
abbrev main_while0b_v134 : Ref sig .tc := ⟨.hbm, 176, rfl⟩
abbrev main_while0b_v135 : Ref sig .tc := ⟨.hbm, 177, rfl⟩
abbrev main_while0b_v136 : Ref sig .tc := ⟨.hbm, 178, rfl⟩
abbrev main_while0b_cst_35 : Ref sig .tc := ⟨.hbm, 179, rfl⟩
abbrev main_while0b_v137 : Ref sig .tc := ⟨.hbm, 180, rfl⟩
abbrev main_while0b_v138 : Ref sig .tc := ⟨.hbm, 181, rfl⟩
abbrev main_while0b_v139 : Ref sig .tc := ⟨.hbm, 182, rfl⟩
abbrev main_while0b_v140 : Ref sig .tc := ⟨.hbm, 183, rfl⟩
abbrev main_while0b_v141 : Ref sig .tc := ⟨.hbm, 184, rfl⟩
abbrev main_while0b_v142 : Ref sig .tc := ⟨.hbm, 185, rfl⟩
abbrev main_while0b_v143 : Ref sig .tc := ⟨.hbm, 186, rfl⟩
abbrev main_while0b_v144 : Ref sig .tc := ⟨.hbm, 187, rfl⟩
abbrev main_while0b_v145 : Ref sig .tc := ⟨.hbm, 188, rfl⟩
abbrev main_while0b_v146 : Ref sig .tc := ⟨.hbm, 189, rfl⟩
abbrev main_while0b_c_36 : Ref sig .tc := ⟨.hbm, 190, rfl⟩
abbrev main_while0b_v147 : Ref sig .tc := ⟨.hbm, 191, rfl⟩
abbrev main_v110 : Ref sig .tc := ⟨.hbm, 192, rfl⟩
abbrev main_cst_16 : Ref sig .tc := ⟨.hbm, 193, rfl⟩
abbrev main_call4_v0 : Ref sig .tc := ⟨.hbm, 194, rfl⟩
abbrev main_call4_v1 : Ref sig .tc := ⟨.hbm, 195, rfl⟩
abbrev main_v111 : Ref sig .tc := ⟨.hbm, 196, rfl⟩
abbrev main_values_17 : Ref sig .tc := ⟨.hbm, 197, rfl⟩
abbrev main_indices_18 : Ref sig .tc := ⟨.hbm, 198, rfl⟩
abbrev main_c_19 : Ref sig .tc := ⟨.hbm, 199, rfl⟩
abbrev main_v112 : Ref sig .tc := ⟨.hbm, 200, rfl⟩
abbrev main_v113 : Ref sig .tc := ⟨.hbm, 201, rfl⟩
abbrev main_c_20 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩

abbrev nD : Nat := 1
abbrev τ : Topo := Topo.v7x

variable {F : FTy → Type} [FloatOps F]

abbrev main_while0_count : Scf.Loop 32 := ⟨0#32, 2000#32, 1#32⟩
-- ==== Proof.IdealBody.lean ====
/-
  The kernel's body, run once at symbolic operands: one trip of the outer loop (the block of 128 rows `i`: the
  overlap matrix of the block with itself, the scan over its rows, the blocks after it), the outer loop's invariant
  over it, and the whole body from its windows.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Kit

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No variant is recorded. -/
abbrev 𝒱₀ : Variants := Variants.none

variable (c : Dev nD)
  (arg0 : Memref sig .tc .vmem S2048x1 .f32) (harg0 : arg0.IsWhole) (arg1 : Memref sig .tc .vmem S2048x1 .f32) (harg1 : arg1.IsWhole)
  (arg2 : Memref sig .tc .vmem S2048x1 .f32) (harg2 : arg2.IsWhole) (arg3 : Memref sig .tc .vmem S2048x1 .f32) (harg3 : arg3.IsWhole)
  (arg4 : Memref sig .tc .vmem S16x128 .f32) (harg4 : arg4.IsWhole) (arg5 : Memref sig .tc .vmem S16x128 .f32) (harg5 : arg5.IsWhole)
  (arg6 : Memref sig .tc .vmem S16x128 .f32) (harg6 : arg6.IsWhole) (arg7 : Memref sig .tc .vmem S16x128 .f32) (harg7 : arg7.IsWhole)
  (arg8 : Memref sig .tc .vmem S16x128 .f32) (harg8 : arg8.IsWhole) (arg9 : Memref sig .tc .vmem S128x128 .f32) (harg9 : arg9.IsWhole)
  (X0 : BufTy.Contents (Elt F) arg0.view.ty) (X1 : BufTy.Contents (Elt F) arg1.view.ty)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)

/-- The buffers one trip touches: the eight inputs at their contents, the result at `f`, the scratch at something. -/
abbrev Trip (f : BufTy.Contents (Elt F) arg8.view.ty) : sProp 𝕄 :=
  iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (arg8.view.loc (c : Thread nD τ) ↦[arg8.view.set]{fullShare} f)
    ∗ ∃ s, (arg9.view.loc (c : Thread nD τ) ↦[arg9.view.set]{fullShare} s))

/-- One trip of the outer loop: the pieces it writes into the result are found by the run, as functions of the inputs'
    contents and of what the result held. -/
@[irreducible] def trip (k : Fin k0_t1_loop.trips) :
    { L : BufTy.Contents (Elt F) arg8.view.ty → List (View.Piece (Elt F) S16x128 .f32) // ∀ (E : Set ℕ) (acc : Unit) (f : BufTy.Contents (Elt F) arg8.view.ty),
      Trip (F := F) c arg0 arg1 arg2 arg3 arg4 arg5 arg6 arg7 arg8 arg9 X0 X1 X2 X3 X4 X5 X6 X7 f
      ⊢ wp frame (wpE (defs₀ (F := F)) 𝒱₀ (c : Thread nD τ) none) E
          (k0_t1_body (F := F) arg0 harg0 arg1 harg1 arg2 harg2 arg3 harg3 arg4 harg4 arg5 harg5 arg6 harg6 arg7 harg7 arg8 harg8 arg9 harg9 k acc)
          (fun _ => Trip (F := F) c arg0 arg1 arg2 arg3 arg4 arg5 arg6 arg7 arg8 arg9 X0 X1 X2 X3 X4 X5 X6 X7 (arg8.view.writes (Elt F) f (L f))) } := by
  have hk : k.val < 16 := Nat.lt_of_lt_of_le k.isLt (by decide)
  refine ⟨?_, fun E acc f => ?run⟩
  case run =>
    unfold k0_t1_body
    iintro ⟨H0, H1, H2, H3, H4, H5, H6, H7, H8, ⟨%s, H9⟩⟩
    sl_exec
    sl_step
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · sl_close
    iexists _; iexact H9

/-- What the trip writes (a projection, for the recursion below to cite). -/
abbrev tripL (k : Fin k0_t1_loop.trips) (f : BufTy.Contents (Elt F) arg8.view.ty) : List (View.Piece (Elt F) S16x128 .f32) :=
  (trip (F := F) c arg0 harg0 arg1 harg1 arg2 harg2 arg3 harg3 arg4 harg4 arg5 harg5 arg6 harg6 arg7 harg7 arg8 harg8 arg9 harg9 X0 X1 X2 X3 X4 X5 X6 X7 k).1 f

/-- One step of the result's contents: what trip `k` leaves of `f`; past the last trip, `f` itself. -/
@[irreducible] def stStep (k : ℕ) (f : BufTy.Contents (Elt F) arg8.view.ty) : BufTy.Contents (Elt F) arg8.view.ty :=
  if h : k < k0_t1_loop.trips then arg8.view.writes (Elt F) f (tripL (F := F) c arg0 harg0 arg1 harg1 arg2 harg2 arg3 harg3 arg4 harg4 arg5 harg5 arg6 harg6 arg7 harg7 arg8 harg8 arg9 harg9 X0 X1 X2 X3 X4 X5 X6 X7 ⟨k, h⟩ f) else f

/-- The result's contents before trip `k`, from its contents `G` at the loop's entry. -/
def st (G : BufTy.Contents (Elt F) arg8.view.ty) : ℕ → BufTy.Contents (Elt F) arg8.view.ty
  | 0 => G
  | k + 1 => stStep (F := F) c arg0 harg0 arg1 harg1 arg2 harg2 arg3 harg3 arg4 harg4 arg5 harg5 arg6 harg6 arg7 harg7 arg8 harg8 arg9 harg9 X0 X1 X2 X3 X4 X5 X6 X7 k (st G k)

theorem st_zero (G : BufTy.Contents (Elt F) arg8.view.ty) : st (F := F) c arg0 harg0 arg1 harg1 arg2 harg2 arg3 harg3 arg4 harg4 arg5 harg5 arg6 harg6 arg7 harg7 arg8 harg8 arg9 harg9 X0 X1 X2 X3 X4 X5 X6 X7 G 0 = G := rfl

/-- One trip's step of the recursion, at a trip of the loop. -/
theorem st_succ (G : BufTy.Contents (Elt F) arg8.view.ty) (k : Fin k0_t1_loop.trips) :
    st (F := F) c arg0 harg0 arg1 harg1 arg2 harg2 arg3 harg3 arg4 harg4 arg5 harg5 arg6 harg6 arg7 harg7 arg8 harg8 arg9 harg9 X0 X1 X2 X3 X4 X5 X6 X7 G (k.val + 1)
      = arg8.view.writes (Elt F) (st (F := F) c arg0 harg0 arg1 harg1 arg2 harg2 arg3 harg3 arg4 harg4 arg5 harg5 arg6 harg6 arg7 harg7 arg8 harg8 arg9 harg9 X0 X1 X2 X3 X4 X5 X6 X7 G k.val)
          (tripL (F := F) c arg0 harg0 arg1 harg1 arg2 harg2 arg3 harg3 arg4 harg4 arg5 harg5 arg6 harg6 arg7 harg7 arg8 harg8 arg9 harg9 X0 X1 X2 X3 X4 X5 X6 X7 k (st (F := F) c arg0 harg0 arg1 harg1 arg2 harg2 arg3 harg3 arg4 harg4 arg5 harg5 arg6 harg6 arg7 harg7 arg8 harg8 arg9 harg9 X0 X1 X2 X3 X4 X5 X6 X7 G k.val)) := by
  rw [st.eq_2]; unfold stStep; exact dif_pos k.isLt

/-- The outer loop's invariant before trip `k`: the inputs as they were, the result at `st G k`. -/
abbrev inv (G : BufTy.Contents (Elt F) arg8.view.ty) (k : ℕ) : sProp 𝕄 :=
  iprop((arg0.view.loc (c : Thread nD τ) ↦[arg0.view.set]{fullShare} X0) ∗ (arg1.view.loc (c : Thread nD τ) ↦[arg1.view.set]{fullShare} X1)
    ∗ (arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} X7)
    ∗ (∃ f, (arg8.view.loc (c : Thread nD τ) ↦[arg8.view.set]{fullShare} f) ∗ ⌜f = st (F := F) c arg0 harg0 arg1 harg1 arg2 harg2 arg3 harg3 arg4 harg4 arg5 harg5 arg6 harg6 arg7 harg7 arg8 harg8 arg9 harg9 X0 X1 X2 X3 X4 X5 X6 X7 G k⌝)
    ∗ ∃ s, (arg9.view.loc (c : Thread nD τ) ↦[arg9.view.set]{fullShare} s))

set_option warn.classDefReducibility false in
/-- The outer loop by its invariant. -/
@[sl_loop] def loopInv (G : BufTy.Contents (Elt F) arg8.view.ty) :
    LoopInvTy_k0_t1 (F := F) Unit ℕ (UR sig nD τ) ℕ 𝒱₀ c none Set.univ arg0 harg0 arg1 harg1 arg2 harg2 arg3 harg3 arg4 harg4 arg5 harg5 arg6 harg6 arg7 harg7 arg8 harg8 arg9 harg9 where
  inv k _ := inv (F := F) c arg0 harg0 arg1 harg1 arg2 harg2 arg3 harg3 arg4 harg4 arg5 harg5 arg6 harg6 arg7 harg7 arg8 harg8 arg9 harg9 X0 X1 X2 X3 X4 X5 X6 X7 G k
  step k acc := by
    iintro ⟨H0, H1, H2, H3, H4, H5, H6, H7, ⟨%f, H8, %hf⟩, H9⟩
    subst hf
    iapply (wp_wand_r Idealize.ShloMosaic.frame (wpE (defs₀ (F := F)) 𝒱₀ (c : Thread nD τ) none) Set.univ)
    isplitl [H0 H1 H2 H3 H4 H5 H6 H7 H8 H9]
    · iapply ((trip (F := F) c arg0 harg0 arg1 harg1 arg2 harg2 arg3 harg3 arg4 harg4 arg5 harg5 arg6 harg6 arg7 harg7 arg8 harg8 arg9 harg9 X0 X1 X2 X3 X4 X5 X6 X7 k).2 Set.univ acc (st (F := F) c arg0 harg0 arg1 harg1 arg2 harg2 arg3 harg3 arg4 harg4 arg5 harg5 arg6 harg6 arg7 harg7 arg8 harg8 arg9 harg9 X0 X1 X2 X3 X4 X5 X6 X7 G k.val))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · iintro %yld ⟨H0, H1, H2, H3, H4, H5, H6, H7, H8, H9⟩
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · iexists _; isplitl [H8]; · iexact H8
        ipureintro; exact (st_succ (F := F) c arg0 harg0 arg1 harg1 arg2 harg2 arg3 harg3 arg4 harg4 arg5 harg5 arg6 harg6 arg7 harg7 arg8 harg8 arg9 harg9 X0 X1 X2 X3 X4 X5 X6 X7 G k).symm
      iexact H9

/-- The whole body: from the eight inputs at their contents, the result and the scratch at something, it runs to its
    return leaving the inputs as they were and the result at the outer loop's last state, started from the contents
    `G` the first store leaves (all ones, on any buffer). -/
def kernelRun :
    { G : BufTy.Contents (Elt F) arg8.view.ty // ∀ (f8 : BufTy.Contents (Elt F) arg8.view.ty) (s9 : BufTy.Contents (Elt F) arg9.view.ty) (Q : PUnit → sProp 𝕄),
      iprop((arg0.view.loc (c : Thread nD τ) ↦[arg0.view.set]{fullShare} X0) ∗ (arg1.view.loc (c : Thread nD τ) ↦[arg1.view.set]{fullShare} X1)
        ∗ (arg2.view.loc (c : Thread nD τ) ↦[arg2.view.set]{fullShare} X2) ∗ (arg3.view.loc (c : Thread nD τ) ↦[arg3.view.set]{fullShare} X3)
        ∗ (arg4.view.loc (c : Thread nD τ) ↦[arg4.view.set]{fullShare} X4) ∗ (arg5.view.loc (c : Thread nD τ) ↦[arg5.view.set]{fullShare} X5)
        ∗ (arg6.view.loc (c : Thread nD τ) ↦[arg6.view.set]{fullShare} X6) ∗ (arg7.view.loc (c : Thread nD τ) ↦[arg7.view.set]{fullShare} X7)
        ∗ (arg8.view.loc (c : Thread nD τ) ↦[arg8.view.set]{fullShare} f8) ∗ (arg9.view.loc (c : Thread nD τ) ↦[arg9.view.set]{fullShare} s9)
        ∗ (Trip (F := F) c arg0 arg1 arg2 arg3 arg4 arg5 arg6 arg7 arg8 arg9 X0 X1 X2 X3 X4 X5 X6 X7 (st (F := F) c arg0 harg0 arg1 harg1 arg2 harg2 arg3 harg3 arg4 harg4 arg5 harg5 arg6 harg6 arg7 harg7 arg8 harg8 arg9 harg9 X0 X1 X2 X3 X4 X5 X6 X7 G k0_t1_loop.trips) -∗ Q ⟨⟩))
      ⊢ wp frame (wpE (defs₀ (F := F)) 𝒱₀ (c : Thread nD τ) none) Set.univ
          (cc0__nms_body (F := F) arg0 harg0 arg1 harg1 arg2 harg2 arg3 harg3 arg4 harg4 arg5 harg5 arg6 harg6 arg7 harg7 arg8 harg8 arg9 harg9) Q } := by
  refine ⟨?_, fun f8 s9 Q => ?run⟩
  case run =>
    rw [cc0__nms_body_eq_skeleton]; unfold cc0__nms_body_skel
    iintro ⟨H0, H1, H2, H3, H4, H5, H6, H7, H8, H9, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

end Cert.KernelIdeal.Nms
-- ==== Proof.IdealBlocks.lean ====
/-
  What one block step of the kernel computes, as functions of the eight coordinate arrays and of the keep matrix,
  with no buffer in sight; and that the contents the kernel's run leaves read as these functions.
-/
module

public import proofs.«01_k».proof.Proof.IdealBody
public import Idealize.ShloMosaic.Lib.Pipeline.FrameBody
public import Idealize.ShloMosaic.Lib.Pipeline.Value
public import Idealize.ShloMosaic.Lib.WritesUnit
public import Idealize.ShloMosaic.Lib.Pointwise.Index

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic

variable {F : FTy → Type} [FloatOps F]

/-- Rows `128 k .. 128 k + 127` of a column. -/
def blkCol (X : Vec F S2048x1 .f32) (k : Fin k0_t1_loop.trips) : Vec F S128x1 .f32 :=
  View.ld X (Rect.unit (k0_off1 k) ![128, 1] (k0_off1_inb k))

/-- Row `k` of a 16 × 128 array. -/
def blkRow (X : Vec F S16x128 .f32) (k : Fin k0_t1_loop.trips) : Vec F S1x128 .f32 :=
  View.ld X (Rect.unit (k0_off2 k) ![1, 128] (k0_off2_inb k))

/-- Row `k + 1 + j` of a 16 × 128 array. -/
def laterRow (X : Vec F S16x128 .f32) (k : Fin k0_t1_loop.trips) (j : Fin (k0_t3_loop k).trips) : Vec F S1x128 .f32 :=
  View.ld X (Rect.unit (k0_off4 k j) ![1, 128] (k0_off4_inb k j))

/-- A 16 × 128 array with row `i` replaced. -/
def putRow (K : Vec F S16x128 .f32) (i : ℕ) (v : Vec F S1x128 .f32) : Vec F S16x128 .f32 :=
  fun y => if (y 0).val = i then v (ix2 (0 : Fin 1) (y 1 : Fin 128)) else K y

section Pure

variable (Y0 Y1 Y2 Y3 : Vec F S2048x1 .f32) (Y4 Y5 Y6 Y7 : Vec F S16x128 .f32)

/-- The overlap matrix of block `k` with itself. -/
def iouB (k : Fin k0_t1_loop.trips) : Vec F S128x128 .f32 :=
  k0_pay2 (k0_pay12 (blkCol Y1 k)) (k0_pay15 (blkCol Y0 k) (blkCol Y1 k) (blkCol Y2 k) (blkCol Y3 k))
    (k0_pay17 (blkRow Y5 k)) (k0_pay20 (blkRow Y4 k) (blkRow Y5 k) (blkRow Y6 k) (blkRow Y7 k))
    (k0_pay21 (blkCol Y0 k) (blkCol Y2 k) (blkRow Y4 k) (blkRow Y6 k)) (k0_pay22 (blkCol Y3 k) (blkRow Y7 k))

/-- The scan over the rows of an overlap matrix: the carried row before row `r`. -/
def scan (M : Vec F S128x128 .f32) (v : Vec F S1x128 .f32) : ℕ → Vec F S1x128 .f32
  | 0 => k0_pay3 v
  | r + 1 => if h : r < k0_t2_loop.trips then
      k0_pay4 ⟨r, h⟩ (scan M v r) (View.ld M (Rect.unit (k0_off3 ⟨r, h⟩) ![1, 128] (k0_off3_inb ⟨r, h⟩)))
    else scan M v r

/-- The blocks after block `k`, the row `v` of block `k` being final: the keep matrix before the `j`-th of them. -/
def cross (k : Fin k0_t1_loop.trips) (v : Vec F S1x128 .f32) (K : Vec F S16x128 .f32) : ℕ → Vec F S16x128 .f32
  | 0 => K
  | j + 1 => if h : j < (k0_t3_loop k).trips then
      putRow (cross k v K j) (k.val + j + 1)
        (k0_pay5 (k0_pay7 (k0_pay11 (blkCol Y0 k)) (k0_pay12 (blkCol Y1 k)) (k0_pay13 (blkCol Y2 k)) (k0_pay14 (blkCol Y3 k))
            (k0_pay15 (blkCol Y0 k) (blkCol Y1 k) (blkCol Y2 k) (blkCol Y3 k)) v
            (laterRow Y4 k ⟨j, h⟩) (laterRow Y5 k ⟨j, h⟩) (laterRow Y6 k ⟨j, h⟩) (laterRow Y7 k ⟨j, h⟩))
          (k0_pay8 (laterRow (cross k v K j) k ⟨j, h⟩)))
    else cross k v K j

/-- Row `k` of the keep matrix after the scan of block `k`. -/
def finalRow (k : Fin k0_t1_loop.trips) (K : Vec F S16x128 .f32) : Vec F S1x128 .f32 :=
  scan (iouB Y0 Y1 Y2 Y3 Y4 Y5 Y6 Y7 k) (blkRow K k) k0_t2_loop.trips

/-- One trip of the outer loop on the keep matrix. -/
def keepStep (k : Fin k0_t1_loop.trips) (K : Vec F S16x128 .f32) : Vec F S16x128 .f32 :=
  cross Y0 Y1 Y2 Y3 Y4 Y5 Y6 Y7 k (finalRow Y0 Y1 Y2 Y3 Y4 Y5 Y6 Y7 k K) (putRow K k.val (finalRow Y0 Y1 Y2 Y3 Y4 Y5 Y6 Y7 k K)) (k0_t3_loop k).trips

/-- The keep matrix before trip `k` of the outer loop. -/
def keepAt : ℕ → Vec F S16x128 .f32
  | 0 => k0_pay1
  | k + 1 => if h : k < k0_t1_loop.trips then keepStep Y0 Y1 Y2 Y3 Y4 Y5 Y6 Y7 ⟨k, h⟩ (keepAt k) else keepAt k

end Pure

variable (c : Dev nD)
  (arg0 : Memref sig .tc .vmem S2048x1 .f32) (harg0 : arg0.IsWhole) (arg1 : Memref sig .tc .vmem S2048x1 .f32) (harg1 : arg1.IsWhole)
  (arg2 : Memref sig .tc .vmem S2048x1 .f32) (harg2 : arg2.IsWhole) (arg3 : Memref sig .tc .vmem S2048x1 .f32) (harg3 : arg3.IsWhole)
  (arg4 : Memref sig .tc .vmem S16x128 .f32) (harg4 : arg4.IsWhole) (arg5 : Memref sig .tc .vmem S16x128 .f32) (harg5 : arg5.IsWhole)
  (arg6 : Memref sig .tc .vmem S16x128 .f32) (harg6 : arg6.IsWhole) (arg7 : Memref sig .tc .vmem S16x128 .f32) (harg7 : arg7.IsWhole)
  (arg8 : Memref sig .tc .vmem S16x128 .f32) (harg8 : arg8.IsWhole) (arg9 : Memref sig .tc .vmem S128x128 .f32) (harg9 : arg9.IsWhole)
  (X0 : BufTy.Contents (Elt F) arg0.view.ty) (X1 : BufTy.Contents (Elt F) arg1.view.ty)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty) (X7 : BufTy.Contents (Elt F) arg7.view.ty)

/-- Storing one row reads as replacing it. -/
theorem read_putRow (g : BufTy.Contents (Elt F) arg8.view.ty) {off : Fin 2 → ℕ} (inb : ∀ a, off a + S1x128.size a ≤ S16x128.size a)
    (i : ℕ) (hoff : off = ![i, 0]) (v : Vec F S1x128 .f32) (L : List (View.Piece (Elt F) S16x128 .f32)) :
    arg8.view.read (Elt F) (arg8.view.writes (Elt F) g ((⟨Rect.unit off ![1, 128] inb, v⟩ : View.Piece (Elt F) S16x128 .f32) :: L))
      = putRow (arg8.view.read (Elt F) (arg8.view.writes (Elt F) g L)) i v := by
  funext y
  unfold putRow
  split
  · rename_i h
    exact View.read_writes_cons_unit_of_mem arg8.view g inb v L y (ix2 (0 : Fin 1) (y 1 : Fin 128)) hoff
      (Fin.forall_fin_two.mpr ⟨h, (Nat.zero_add _).symm⟩)
  · rename_i h
    exact View.read_writes_cons_unit_of_not_mem arg8.view g inb v L y hoff (0 : Fin 2)
      (by show (y 0).val < i ∨ i + 1 ≤ (y 0).val; omega)

/-- The carried row of the generated scan state, read off the overlap matrix the scratch holds. -/
theorem st2_eq (M : BufTy.Contents (Elt F) arg9.view.ty) (v : Vec F S1x128 .f32) (n : ℕ) (hn : n ≤ k0_t2_loop.trips) :
    st_k0_t2 (F := F) 𝒱₀ c none arg0 harg0 arg1 harg1 arg2 harg2 arg3 harg3 arg4 harg4 arg5 harg5 arg6 harg6 arg7 harg7 arg8 harg8 arg9 harg9 M (k0_pay3 v) n = scan (arg9.view.read (Elt F) M) v n := by
  induction n with
  | zero => rfl
  | succ n ih =>
    have h := st_k0_t2_succ (F := F) 𝒱₀ c none arg0 harg0 arg1 harg1 arg2 harg2 arg3 harg3 arg4 harg4 arg5 harg5 arg6 harg6 arg7 harg7 arg8 harg8 arg9 harg9 M (k0_pay3 v) ⟨n, hn⟩
    rw [ih (Nat.le_of_succ_le hn)] at h
    rw [h, scan, dif_pos (Nat.lt_of_succ_le hn)]
    unfold tripR_k0_t2 trip_k0_t2
    rfl

/-- The generated state of the loop over the later blocks, read through the result's buffer. -/
theorem st3_eq (k : Fin k0_t1_loop.trips) (v : Vec F S1x128 .f32) (v74 : BitVec 32) (g : BufTy.Contents (Elt F) arg8.view.ty) (i0 : BitVec 32)
    (n : ℕ) (hn : n ≤ (k0_t3_loop k).trips) :
    arg8.view.read (Elt F) (arg8.view.writes (Elt F) g (st_k0_t3 (F := F) 𝒱₀ c none arg0 harg0 arg1 harg1 arg2 harg2 arg3 harg3 arg4 harg4 arg5 harg5 arg6 harg6 arg7 harg7 arg8 harg8 arg9 harg9 k
        (k0_pay11 (blkCol (arg0.view.read (Elt F) X0) k)) (k0_pay12 (blkCol (arg1.view.read (Elt F) X1) k))
        (k0_pay13 (blkCol (arg2.view.read (Elt F) X2) k)) (k0_pay14 (blkCol (arg3.view.read (Elt F) X3) k))
        (k0_pay15 (blkCol (arg0.view.read (Elt F) X0) k) (blkCol (arg1.view.read (Elt F) X1) k) (blkCol (arg2.view.read (Elt F) X2) k) (blkCol (arg3.view.read (Elt F) X3) k))
        v v74 X4 X5 X6 X7 g i0 n).2)
      = cross (arg0.view.read (Elt F) X0) (arg1.view.read (Elt F) X1) (arg2.view.read (Elt F) X2) (arg3.view.read (Elt F) X3) (arg4.view.read (Elt F) X4) (arg5.view.read (Elt F) X5) (arg6.view.read (Elt F) X6) (arg7.view.read (Elt F) X7) k v (arg8.view.read (Elt F) g) n := by
  induction n with
  | zero => rfl
  | succ n ih =>
    have h := st_k0_t3_succ (F := F) 𝒱₀ c none arg0 harg0 arg1 harg1 arg2 harg2 arg3 harg3 arg4 harg4 arg5 harg5 arg6 harg6 arg7 harg7 arg8 harg8 arg9 harg9 k
        (k0_pay11 (blkCol (arg0.view.read (Elt F) X0) k)) (k0_pay12 (blkCol (arg1.view.read (Elt F) X1) k))
        (k0_pay13 (blkCol (arg2.view.read (Elt F) X2) k)) (k0_pay14 (blkCol (arg3.view.read (Elt F) X3) k))
        (k0_pay15 (blkCol (arg0.view.read (Elt F) X0) k) (blkCol (arg1.view.read (Elt F) X1) k) (blkCol (arg2.view.read (Elt F) X2) k) (blkCol (arg3.view.read (Elt F) X3) k))
        v v74 X4 X5 X6 X7 g i0 ⟨n, hn⟩
    have ih := ih (Nat.le_of_succ_le hn)
    rw [h]
    dsimp only
    generalize (st_k0_t3 (F := F) 𝒱₀ c none arg0 harg0 arg1 harg1 arg2 harg2 arg3 harg3 arg4 harg4 arg5 harg5 arg6 harg6 arg7 harg7 arg8 harg8 arg9 harg9 k
        (k0_pay11 (blkCol (arg0.view.read (Elt F) X0) k)) (k0_pay12 (blkCol (arg1.view.read (Elt F) X1) k))
        (k0_pay13 (blkCol (arg2.view.read (Elt F) X2) k)) (k0_pay14 (blkCol (arg3.view.read (Elt F) X3) k))
        (k0_pay15 (blkCol (arg0.view.read (Elt F) X0) k) (blkCol (arg1.view.read (Elt F) X1) k) (blkCol (arg2.view.read (Elt F) X2) k) (blkCol (arg3.view.read (Elt F) X3) k))
        v v74 X4 X5 X6 X7 g i0 n) = s at ih ⊢
    unfold tripL_k0_t3 trip_k0_t3
    dsimp only
    rw [List.singleton_append, read_putRow arg8 g _ (k.val + n + 1) (k0_off4_eq k ⟨n, hn⟩), cross, dif_pos (Nat.lt_of_succ_le hn), ← ih]
    rfl

/-- One trip of the outer loop, read through the result's buffer, is one step on the keep matrix. -/
theorem read_tripL (k : Fin k0_t1_loop.trips) (f : BufTy.Contents (Elt F) arg8.view.ty) :
    arg8.view.read (Elt F) (arg8.view.writes (Elt F) f (tripL (F := F) c arg0 harg0 arg1 harg1 arg2 harg2 arg3 harg3 arg4 harg4 arg5 harg5 arg6 harg6 arg7 harg7 arg8 harg8 arg9 harg9 X0 X1 X2 X3 X4 X5 X6 X7 k f))
      = keepStep (arg0.view.read (Elt F) X0) (arg1.view.read (Elt F) X1) (arg2.view.read (Elt F) X2) (arg3.view.read (Elt F) X3) (arg4.view.read (Elt F) X4) (arg5.view.read (Elt F) X5) (arg6.view.read (Elt F) X6) (arg7.view.read (Elt F) X7) k (arg8.view.read (Elt F) f) := by
  have h2 : Scf.trips 0#32 (Scalar.addi 0#32 128#32) 1#32 = k0_t2_loop.trips := rfl
  have h4 : (k0_t4_loop k).trips = 0 := Nat.le_zero.mp (k0_t4_abs k).2.1
  have hM : ∀ w : Vec F S128x128 .f32, arg9.view.read (Elt F) (arg9.view.writes (Elt F) arg9.view.junk
      [⟨Rect.unit ![0, 0] ![128, 128] inb_S128x128_S128x128_0_0, w⟩]) = w := fun w => by
    funext y
    exact View.read_writes_cons_unit_of_mem arg9.view _ inb_S128x128_S128x128_0_0 w [] y y rfl
      (Fin.forall_fin_two.mpr ⟨(Nat.zero_add _).symm, (Nat.zero_add _).symm⟩)
  have h4' : Scf.trips (Scalar.addi (Scalar.addi (Scf.iv 0#32 1#32 k) 1#32)
      (Scalar.muli (Scalar.divsi (Scalar.subi 16#32 (Scalar.addi (Scf.iv 0#32 1#32 k) 1#32)) 1#32) 1#32))
      (Scalar.addi (Scalar.addi (Scf.iv 0#32 1#32 k) 1#32) (Scalar.subi 16#32 (Scalar.addi (Scf.iv 0#32 1#32 k) 1#32))) 1#32 = 0 := h4
  have h3 : Scf.trips (Scalar.addi (Scf.iv 0#32 1#32 k) 1#32) (Scalar.addi (Scalar.addi (Scf.iv 0#32 1#32 k) 1#32)
      (Scalar.muli (Scalar.divsi (Scalar.subi 16#32 (Scalar.addi (Scf.iv 0#32 1#32 k) 1#32)) 1#32) 1#32)) 1#32 = (k0_t3_loop k).trips := rfl
  unfold tripL trip
  dsimp only
  unfold trip.sl.H9_1
  generalize hV : st_k0_t2 (F := F) 𝒱₀ c none arg0 harg0 arg1 harg1 arg2 harg2 arg3 harg3 arg4 harg4 arg5 harg5 arg6 harg6 arg7 harg7 arg8 harg8 arg9 harg9 _ _ _ = v
  rw [h2, st2_eq (F := F) c arg0 harg0 arg1 harg1 arg2 harg2 arg3 harg3 arg4 harg4 arg5 harg5 arg6 harg6 arg7 harg7 arg8 harg8 arg9 harg9 _ _ _ le_rfl, hM] at hV
  rw [View.writes_append, View.writes_append, h4']
  generalize hs : st_k0_t3 (F := F) 𝒱₀ c none arg0 harg0 arg1 harg1 arg2 harg2 arg3 harg3 arg4 harg4 arg5 harg5 arg6 harg6 arg7 harg7 arg8 harg8 arg9 harg9 k _ _ _ _ _ _ _ _ _ _ _ _ _ _ = s
  rw [h3] at hs
  rw [st_k0_t4.eq_1]
  dsimp only
  rw [View.writes_nil, ← hs]
  clear hs h4 h4' h3 s
  refine (st3_eq (F := F) c arg0 harg0 arg1 harg1 arg2 harg2 arg3 harg3 arg4 harg4 arg5 harg5 arg6 harg6 arg7 harg7 arg8 harg8 arg9 harg9 X0 X1 X2 X3 X4 X5 X6 X7 k v _ _ _ _ le_rfl).trans ?_
  rw [read_putRow arg8 f _ k.val (k0_off2_eq k) v [], View.writes_nil, ← hV]
  rfl

/-- What the result's buffer holds before trip `n`, started at all ones, reads as the keep matrix before trip `n`. -/
theorem read_st (G : BufTy.Contents (Elt F) arg8.view.ty) (hG : arg8.view.read (Elt F) G = k0_pay1) (n : ℕ) (hn : n ≤ k0_t1_loop.trips) :
    arg8.view.read (Elt F) (st (F := F) c arg0 harg0 arg1 harg1 arg2 harg2 arg3 harg3 arg4 harg4 arg5 harg5 arg6 harg6 arg7 harg7 arg8 harg8 arg9 harg9 X0 X1 X2 X3 X4 X5 X6 X7 G n) = keepAt (arg0.view.read (Elt F) X0) (arg1.view.read (Elt F) X1) (arg2.view.read (Elt F) X2) (arg3.view.read (Elt F) X3) (arg4.view.read (Elt F) X4) (arg5.view.read (Elt F) X5) (arg6.view.read (Elt F) X6) (arg7.view.read (Elt F) X7) n := by
  induction n with
  | zero => exact hG
  | succ n ih =>
    have h := st_succ (F := F) c arg0 harg0 arg1 harg1 arg2 harg2 arg3 harg3 arg4 harg4 arg5 harg5 arg6 harg6 arg7 harg7 arg8 harg8 arg9 harg9 X0 X1 X2 X3 X4 X5 X6 X7 G ⟨n, hn⟩
    rw [h, keepAt, dif_pos (Nat.lt_of_succ_le hn), ← ih (Nat.le_of_succ_le hn)]
    exact read_tripL c arg0 harg0 arg1 harg1 arg2 harg2 arg3 harg3 arg4 harg4 arg5 harg5 arg6 harg6 arg7 harg7 arg8 harg8 arg9 harg9 X0 X1 X2 X3 X4 X5 X6 X7 ⟨n, hn⟩ _

/-- Storing a whole 16 × 128 array reads as that array. -/
theorem read_whole (g : BufTy.Contents (Elt F) arg8.view.ty) (w : Vec F S16x128 .f32) :
    arg8.view.read (Elt F) (View.write (Elt F) (arg8.view.slice (Rect.unit ![0, 0] ![16, 128] inb_S16x128_S16x128_0_0)) g w Finset.univ) = w := by
  have h := fun y => View.read_writes_cons_unit_of_mem arg8.view g inb_S16x128_S16x128_0_0 w [] y y rfl
    (Fin.forall_fin_two.mpr ⟨(Nat.zero_add _).symm, (Nat.zero_add _).symm⟩)
  exact funext h

/-- The outer loop is entered with the keep matrix at all ones. -/
theorem read_start : arg8.view.read (Elt F) (kernelRun (F := F) c arg0 harg0 arg1 harg1 arg2 harg2 arg3 harg3 arg4 harg4 arg5 harg5 arg6 harg6 arg7 harg7 arg8 harg8 arg9 harg9 X0 X1 X2 X3 X4 X5 X6 X7).1 = k0_pay1 := by
  unfold kernelRun
  dsimp only
  exact read_whole arg8 _ _

/-- What the run leaves in the result's buffer reads as the last keep matrix. -/
theorem read_final :
    arg8.view.read (Elt F) (st (F := F) c arg0 harg0 arg1 harg1 arg2 harg2 arg3 harg3 arg4 harg4 arg5 harg5 arg6 harg6 arg7 harg7 arg8 harg8 arg9 harg9 X0 X1 X2 X3 X4 X5 X6 X7 (kernelRun (F := F) c arg0 harg0 arg1 harg1 arg2 harg2 arg3 harg3 arg4 harg4 arg5 harg5 arg6 harg6 arg7 harg7 arg8 harg8 arg9 harg9 X0 X1 X2 X3 X4 X5 X6 X7).1 k0_t1_loop.trips)
      = keepAt (arg0.view.read (Elt F) X0) (arg1.view.read (Elt F) X1) (arg2.view.read (Elt F) X2) (arg3.view.read (Elt F) X3) (arg4.view.read (Elt F) X4) (arg5.view.read (Elt F) X5) (arg6.view.read (Elt F) X6) (arg7.view.read (Elt F) X7) k0_t1_loop.trips :=
  read_st (F := F) c arg0 harg0 arg1 harg1 arg2 harg2 arg3 harg3 arg4 harg4 arg5 harg5 arg6 harg6 arg7 harg7 arg8 harg8 arg9 harg9 X0 X1 X2 X3 X4 X5 X6 X7 (kernelRun (F := F) c arg0 harg0 arg1 harg1 arg2 harg2 arg3 harg3 arg4 harg4 arg5 harg5 arg6 harg6 arg7 harg7 arg8 harg8 arg9 harg9 X0 X1 X2 X3 X4 X5 X6 X7).1
    (read_start c arg0 harg0 arg1 harg1 arg2 harg2 arg3 harg3 arg4 harg4 arg5 harg5 arg6 harg6 arg7 harg7 arg8 harg8 arg9 harg9 X0 X1 X2 X3 X4 X5 X6 X7) k0_t1_loop.trips (Nat.le_refl _)

end Cert.KernelIdeal.Nms
-- ==== Proof.IdealRun.lean ====
/-
  The launch: the proof data of the one region (inputs as staged, the result as the body leaves it), the body
  obligation, and the run of the whole program: every array of the region and every other buffer named at the end,
  every semaphore counter at zero.
-/
module

public import proofs.«01_k».proof.Proof.IdealBlocks
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD)
  (arg0 : Memref sig .tc .vmem S2048x1 .f32) (harg0 : arg0.IsWhole) (arg1 : Memref sig .tc .vmem S2048x1 .f32) (harg1 : arg1.IsWhole)
  (arg2 : Memref sig .tc .vmem S2048x1 .f32) (harg2 : arg2.IsWhole) (arg3 : Memref sig .tc .vmem S2048x1 .f32) (harg3 : arg3.IsWhole)
  (arg4 : Memref sig .tc .vmem S16x128 .f32) (harg4 : arg4.IsWhole) (arg5 : Memref sig .tc .vmem S16x128 .f32) (harg5 : arg5.IsWhole)
  (arg6 : Memref sig .tc .vmem S16x128 .f32) (harg6 : arg6.IsWhole) (arg7 : Memref sig .tc .vmem S16x128 .f32) (harg7 : arg7.IsWhole)
  (arg8 : Memref sig .tc .vmem S16x128 .f32) (harg8 : arg8.IsWhole) (arg9 : Memref sig .tc .vmem S128x128 .f32) (harg9 : arg9.IsWhole)
  (Y0 Y1 Y2 Y3 : Vec F S2048x1 .f32) (Y4 Y5 Y6 Y7 : Vec F S16x128 .f32) (Y8 : Vec F S16x128 .f32) (Y9 : Vec F S128x128 .f32)

/-- The kernel's body: from the eight inputs, it leaves the last keep matrix in the result's buffer. -/
theorem sound_kernel (Q : PUnit → sProp 𝕄) :
    iprop(owns c arg0 fullShare Y0 ∗ owns c arg1 fullShare Y1 ∗ owns c arg2 fullShare Y2 ∗ owns c arg3 fullShare Y3 ∗ owns c arg4 fullShare Y4 ∗ owns c arg5 fullShare Y5 ∗ owns c arg6 fullShare Y6 ∗ owns c arg7 fullShare Y7 ∗ owns c arg8 fullShare Y8 ∗ owns c arg9 fullShare Y9
      ∗ ((owns c arg0 fullShare Y0 ∗ owns c arg1 fullShare Y1 ∗ owns c arg2 fullShare Y2 ∗ owns c arg3 fullShare Y3 ∗ owns c arg4 fullShare Y4 ∗ owns c arg5 fullShare Y5 ∗ owns c arg6 fullShare Y6 ∗ owns c arg7 fullShare Y7 ∗ owns c arg8 fullShare (keepAt Y0 Y1 Y2 Y3 Y4 Y5 Y6 Y7 k0_t1_loop.trips)
          ∗ ∃ Z9, owns c arg9 fullShare Z9) -∗ Q ⟨⟩))
    ⊢ wp frame (wpE (defs₀ (F := F)) 𝒱₀ (c : Thread nD τ) none) Set.univ
        (cc0__nms_body (F := F) arg0 harg0 arg1 harg1 arg2 harg2 arg3 harg3 arg4 harg4 arg5 harg5 arg6 harg6 arg7 harg7 arg8 harg8 arg9 harg9) Q := by
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, HQ⟩
  subst h0 h1 h2 h3 h4 h5 h6 h7 h8 h9
  iapply ((kernelRun (F := F) c arg0 harg0 arg1 harg1 arg2 harg2 arg3 harg3 arg4 harg4 arg5 harg5 arg6 harg6 arg7 harg7 arg8 harg8 arg9 harg9 f0 f1 f2 f3 f4 f5 f6 f7).2 f8 f9 Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, ⟨%s, H9⟩⟩
  iapply HQ
  isplitl [H0]
  · iexists f0
    isplitr [H0]
    · ipureintro; rfl
    · iexact H0
  isplitl [H1]
  · iexists f1
    isplitr [H1]
    · ipureintro; rfl
    · iexact H1
  isplitl [H2]
  · iexists f2
    isplitr [H2]
    · ipureintro; rfl
    · iexact H2
  isplitl [H3]
  · iexists f3
    isplitr [H3]
    · ipureintro; rfl
    · iexact H3
  isplitl [H4]
  · iexists f4
    isplitr [H4]
    · ipureintro; rfl
    · iexact H4
  isplitl [H5]
  · iexists f5
    isplitr [H5]
    · ipureintro; rfl
    · iexact H5
  isplitl [H6]
  · iexists f6
    isplitr [H6]
    · ipureintro; rfl
    · iexact H6
  isplitl [H7]
  · iexists f7
    isplitr [H7]
    · ipureintro; rfl
    · iexact H7
  isplitl [H8]
  · iexists _
    isplitr [H8]
    · ipureintro; exact read_final (F := F) c arg0 harg0 arg1 harg1 arg2 harg2 arg3 harg3 arg4 harg4 arg5 harg5 arg6 harg6 arg7 harg7 arg8 harg8 arg9 harg9 f0 f1 f2 f3 f4 f5 f6 f7
    · iexact H8
  iexists _; iexists s
  isplitr [H9]
  · ipureintro; rfl
  iexact H9

end Body

variable (m : (ℓ : Loc nD τ sig) → Buf (Elt F) ℓ) (ρ : Dev nD → PrngReg)

/-- What the region leaves in the result's buffer: the last keep matrix over the staged inputs. -/
def outv (c : Dev nD) (t : Fin cfg0.N) : Vec F S16x128 .f32 :=
  keepAt (iblk m c 0 t) (iblk m c 1 t) (iblk m c 2 t) (iblk m c 3 t) (iblk m c 4 t) (iblk m c 5 t) (iblk m c 6 t) (iblk m c 7 t) k0_t1_loop.trips

/-- The proof data on core `c`: the arrays as the region finds them; after the body each input's staging buffer as
    fetched, the result's at `outv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outv m c t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outv m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-- What the body is given at a point: the region's scoped buffers, what it owes, each window's staging buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))

/-- And what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t))

/-- The scratch buffer, held at a value, is held. -/
theorem owns_scratch (c : Dev nD) (z : Vec F S128x128 .f32) : (owns (c : Thread nD τ) (Memref.whole cc0_scratch0) fullShare z : sProp 𝕄)
    ⊢ iprop(∃ f : Buf (Elt F) ((c : Thread nD τ).loc cc0_scratch0), ((c : Thread nD τ).loc cc0_scratch0) ↦{fullShare} f) := by
  rw [owns_whole_eq]
  iintro ⟨%fz, %hz, Hs⟩
  iexists fz; iexact Hs

/-- The body's triple at a point. -/
theorem sound_body (c : Dev nD) (t : Fin cfg0.N) :
    bodyPre m c t ⊢ wp frame (wpE (defs₀ (F := F)) 𝒱₀ (c : Thread nD τ) none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, show (dats m 0 c).Φ t.castSucc = Pipeline.ΦA spec0 c from rfl]
  unfold Pipeline.ΦA
  rw [scopedRest0_eq]
  iintro ⟨⟨⟨%fs, Hs⟩, Hrng⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel (F := F) c _ _ _ _ _ _ _ _ _ _ _ _ _ _ _ _ _ _ (Memref.whole cc0_scratch0) (Memref.isWhole_whole _)
    (iblk m c 0 t) (iblk m c 1 t) (iblk m c 2 t) (iblk m c 3 t) (iblk m c 4 t) (iblk m c 5 t) (iblk m c 6 t) (iblk m c 7 t) _ fs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [owns_whole_eq]
  isplitl [Hs]
  · iexists fs
    isplitr [Hs]
    · ipureintro; rfl
    · iexact Hs
  iintro ⟨H0, H1, H2, H3, H4, H5, H6, H7, H8, ⟨%z, Hs⟩⟩
  isplitl [Hs Hrng]
  · isplitl [Hs]
    · iapply (owns_scratch c z); iexact Hs
    · iexact Hrng
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The label table at the pipelined body's row is the body at the current staging slots. -/
theorem body_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := F)) 𝒱₀ () Set.univ := fun t => by
  rw [bigSep_W0, bigSep_W0, body_row]
  exact triple_restated (sound_body m c t) rfl .rfl fun _ => .rfl

/-- The whole run: every array of the region, every other buffer, and every semaphore counter at zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ 𝒱₀ m ρ main
    (hbody := fun c => (body_obligation m c).loose) (hshare := fun c w => (dats m 0 c).share_full (fun _ => rfl) w) (howed := fun _ _ => rfl)
    (V₀ := V0 m) (opss := [hostOps1]) (hsub := sfx_sub) (hfresh := sfx_fresh) (hkeep := sfx_keeps) (hmain := hmain m 𝒱₀) (hA := A_eq m)
    (hΦ := fun _ _ => rfl) (Q' := _) (hQ' := fun _ h => h)

/-- The frame: on every device the three arguments end as they began, and every semaphore counter is zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
      ⟨(((h.1 c).2 main_arg0 (Pipeline.mem_restRefs_of main_arg0 (by decide) (by decide))).trans (W_main_arg0 m (dats m) c)),
       (((h.1 c).2 main_arg1 (Pipeline.mem_restRefs_of main_arg1 (by decide) (by decide))).trans (W_main_arg1 m (dats m) c)),
       (((h.1 c).2 main_arg2 (Pipeline.mem_restRefs_of main_arg2 (by decide) (by decide))).trans (W_main_arg2 m (dats m) c))⟩, h.2⟩)
    (run_main m ρ)

end Cert.KernelIdeal.Nms
-- ==== Proof.RefFrame.lean ====
/-
  The reference's frame: no operation of the reference writes an argument array, so each holds at the end what it
  held at the start.
-/
module

public import proofs.«01_k».proof.Proof.Gen.ReferenceIdeal.Run

@[expose] public section

set_option maxRecDepth 16384

noncomputable section

namespace Cert.ReferenceIdeal.Greedy

open Cert.ReferenceIdeal Cert.ReferenceIdeal.Gen Cert.ReferenceIdeal.Value
open Idealize.ShloMosaic Idealize.ShloMosaic.TcCoe Idealize.ShloMosaic.Tactic
open Idealize.SL Idealize.SL.RA Idealize.SL.Sem
open Idealize.ShloMosaic.StableHlo

variable {F : FTy → Type} [FloatOps F]

/-- The references the last two stretches' operations write. -/
abbrev lastW : List (Ref sig .tc) := [main_v110, main_cst_16, main_call4_v0, main_call4_v1, main_v111,
  main_values_17, main_indices_18, main_c_19, main_v112, main_v113, main_c_20, main_v114, main_v115, main_v116, main_v117, main_v118, main_v119, main_v120]

/-- Every reference the stretch before the loop writes. -/
abbrev firstW : List (Ref sig .tc) := hostOps0_W ++ hostOps0_1_W ++ hostOps0_2_W ++ hostOps0_3_W ++ hostOps0_4_W ++ hostOps0_5_W
  ++ hostOps0_6_W ++ hostOps0_7_W ++ hostOps0_8_W

/-- A reference no operation before the loop writes is found by the loop as launched. -/
theorem entry_keeps (m : (ℓ : Loc nD τ sig) → Buf (Elt F) ℓ) (c : Dev nD) (b : Ref sig .tc) (hb : b ∉ firstW) :
    entryContents preI m c (Proc.devRef .tc b) = m (c, Proc.devRef .tc b) := by
  simp only [firstW, List.mem_append, not_or] at hb
  obtain ⟨⟨⟨⟨⟨⟨⟨⟨h0, h1⟩, h2⟩, h3⟩, h4⟩, h5⟩, h6⟩, h7⟩, h8⟩ := hb
  unfold entryContents preI
  simp only [afterL_cons, afterL_nil]
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A reference the loop's condition and body do not write is, after any number of trips, as the loop found it. -/
theorem trips_keep (m : (ℓ : Loc nD τ sig) → Buf (Elt F) ℓ) (c : Dev nD) (b : Ref sig .tc) (hc : b ∉ condOps_W) (hb : b ∉ while0Ops0_W) :
    ∀ k, atK m k c (Proc.devRef .tc b) = entryContents preI m c (Proc.devRef .tc b)
  | 0 => rfl
  | k + 1 => by
    rw [show atK m (k + 1) c = afterL bodyI (after condOps (atK m k c)) from rfl]
    unfold bodyI
    simp only [afterL_cons, afterL_nil]
    rw [after_of_writes_sub _ _ while0Ops0_writes hb, after_of_writes_sub _ _ condOps_writes hc, trips_keep m c b hc hb k]
    rfl

/-- A reference the operations after the loop do not write keeps what the loop left in it. -/
theorem last_keeps (V : Valuation τ sig (Elt F)) (b : Ref sig .tc) (hb : b ∉ lastW) :
    afterL postI V (Proc.devRef .tc b) = V (Proc.devRef .tc b) := by
  unfold postI
  simp only [afterL_cons, afterL_nil, ← after_append]
  exact after_of_writes_sub (W := lastW) _ _ (StableHlo.forall_writes_sub_of_map rfl) hb

/-- A reference nothing writes ends as launched. -/
theorem keeps (m : (ℓ : Loc nD τ sig) → Buf (Elt F) ℓ) (c : Dev nD) (b : Ref sig .tc) (h1 : b ∉ firstW) (hc : b ∉ condOps_W)
    (h2 : b ∉ while0Ops0_W) (h3 : b ∉ lastW) :
    finalContents condOps preI bodyI postI 2000 m c (Proc.devRef .tc b) = m (c, Proc.devRef .tc b) := by
  unfold finalContents
  rw [last_keeps _ b h3, after_of_writes_sub _ _ condOps_writes hc]
  exact (trips_keep m c b hc h2 2000).trans (entry_keeps m c b h1)

/-- The reference's run: every buffer at the fold of its operations, every semaphore counter zero. -/
theorem run_main (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v120) = finalContents condOps preI bodyI postI 2000 m c (Proc.devRef .tc main_v120)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run (defs (F := F)) _ _).mono
    (fun r h => ⟨fun c => ⟨h c main_v120 (by decide),
      (h c main_arg0 (by decide)).trans (keeps m c main_arg0 (by decide) (by decide) (by decide) (by decide)),
      (h c main_arg1 (by decide)).trans (keeps m c main_arg1 (by decide) (by decide) (by decide) (by decide)),
      (h c main_arg2 (by decide)).trans (keeps m c main_arg2 (by decide) (by decide) (by decide) (by decide))⟩,
        Idealize.ShloMosaic.sem_eq_zero_of_no_sems (by decide) r.2⟩)
    (run_fold m ρ)

end Cert.ReferenceIdeal.Greedy
-- ==== Proof.HostSame.lean ====
module

public import proofs.«01_k».proof.Proof.Gen.ReferenceIdeal.Run
public import proofs.«01_k».proof.Proof.Gen.KernelIdeal.Launch
public import Idealize.ShloMosaic.Lib.Pointwise
public import Idealize.ShloMosaic.Lib.StableHlo.ReadAt

@[expose] public section

set_option maxRecDepth 16384

noncomputable section

namespace Cert.Host

open Idealize.ShloMosaic Idealize.ShloMosaic.TcCoe Idealize.ShloMosaic.StableHlo

abbrev KV := Valuation Cert.KernelIdeal.τ Cert.KernelIdeal.sig (Elt Ideal)
abbrev RV := Valuation Cert.ReferenceIdeal.τ Cert.ReferenceIdeal.sig (Elt Ideal)

/-- The kernel's first stage: the best 2000 boxes, clipped. -/
abbrev kTop (V : KV) : KV := after (Cert.KernelIdeal.Gen.hostOps0.take 51) V
/-- The kernel's second stage: which boxes count, their masked scores, and the boxes moved apart by level. -/
abbrev kMid (X : KV) : KV := after ((Cert.KernelIdeal.Gen.hostOps0.drop 51).take 31) X
/-- The kernel's third stage: the moved boxes padded and cut into columns. -/
abbrev kEnd (Y : KV) : KV := after (Cert.KernelIdeal.Gen.hostOps0.drop 82) Y
/-- The reference's first stage. -/
abbrev rTop (V : RV) : RV := after (Cert.ReferenceIdeal.Gen.hostOps0_4.take 13) (after Cert.ReferenceIdeal.Gen.hostOps0_3 (after Cert.ReferenceIdeal.Gen.hostOps0_2 (after Cert.ReferenceIdeal.Gen.hostOps0_1 (after Cert.ReferenceIdeal.Gen.hostOps0 V))))
/-- The reference's second stage. -/
abbrev rMid (X : RV) : RV := after (Cert.ReferenceIdeal.Gen.hostOps0_6.take 10) (after Cert.ReferenceIdeal.Gen.hostOps0_5 (after (Cert.ReferenceIdeal.Gen.hostOps0_4.drop 13) X))
/-- The reference's third stage: the matrix of overlap ratios and what the loop starts from. -/
abbrev rEnd (Y : RV) : RV := after Cert.ReferenceIdeal.Gen.hostOps0_8 (after Cert.ReferenceIdeal.Gen.hostOps0_7 (after (Cert.ReferenceIdeal.Gen.hostOps0_6.drop 10) Y))

/-- The kernel's host operations are its three stages in turn. -/
theorem kernel_stages (V : KV) : after Cert.KernelIdeal.Gen.hostOps0 V = kEnd (kMid (kTop V)) := by
  unfold kEnd kMid kTop
  rw [← after_append, ← after_append]
  rfl

/-- The reference's host operations before its loop are its three stages in turn. -/
theorem reference_stages (V : RV) : afterL [Cert.ReferenceIdeal.Gen.hostOps0, Cert.ReferenceIdeal.Gen.hostOps0_1, Cert.ReferenceIdeal.Gen.hostOps0_2, Cert.ReferenceIdeal.Gen.hostOps0_3, Cert.ReferenceIdeal.Gen.hostOps0_4, Cert.ReferenceIdeal.Gen.hostOps0_5, Cert.ReferenceIdeal.Gen.hostOps0_6, Cert.ReferenceIdeal.Gen.hostOps0_7, Cert.ReferenceIdeal.Gen.hostOps0_8] V = rEnd (rMid (rTop V)) := by
  unfold rEnd rMid rTop
  simp only [afterL_cons, afterL_nil]
  rw [← after_append _ (Cert.ReferenceIdeal.Gen.hostOps0_6.drop 10), ← after_append _ (Cert.ReferenceIdeal.Gen.hostOps0_4.drop 13)]
  rfl

/-- Four columns joined, column by column. -/
theorem join_congr {a b c d a' b' c' d' : FVec Ideal Cert.KernelIdeal.S2000x1 .f32} {h h'}
    (ha : a = a') (hb : b = b') (hc : c = c') (hd : d = d') :
    concatenate Cert.KernelIdeal.S2000x4 1 [⟨Cert.KernelIdeal.S2000x1, a⟩, ⟨Cert.KernelIdeal.S2000x1, b⟩, ⟨Cert.KernelIdeal.S2000x1, c⟩, ⟨Cert.KernelIdeal.S2000x1, d⟩] h
      = concatenate Cert.KernelIdeal.S2000x4 1 [⟨Cert.KernelIdeal.S2000x1, a'⟩, ⟨Cert.KernelIdeal.S2000x1, b'⟩, ⟨Cert.KernelIdeal.S2000x1, c'⟩, ⟨Cert.KernelIdeal.S2000x1, d'⟩] h' := by
  subst ha hb hc hd; rfl

/-- The kernel's and the reference's arguments hold the same arrays. -/
structure SameArgs (V : KV) (V' : RV) : Prop where
  boxes : V (Proc.devRef .tc Cert.KernelIdeal.main_arg0) = V' (Proc.devRef .tc Cert.ReferenceIdeal.main_arg0)
  scores : V (Proc.devRef .tc Cert.KernelIdeal.main_arg1) = V' (Proc.devRef .tc Cert.ReferenceIdeal.main_arg1)
  levels : V (Proc.devRef .tc Cert.KernelIdeal.main_arg2) = V' (Proc.devRef .tc Cert.ReferenceIdeal.main_arg2)

variable {V : KV} {V' : RV}

theorem gather_boxes : Cert.KernelIdeal.gather_S20000x4_S2000x1_S2000x4_1_0_n_n_0_1_14 = Cert.ReferenceIdeal.gather_S20000x4_S2000x1_S2000x4_1_0_n_n_0_1_14 := rfl
theorem gather_levels : Cert.KernelIdeal.gather_S20000_S2000x1_S2000_n_0_n_n_0_1_1 = Cert.ReferenceIdeal.gather_S20000_S2000x1_S2000_n_0_n_n_0_1_1 := rfl

/-- The best scores are the same. -/
theorem same_values (h : SameArgs V V') : kTop V (Proc.devRef .tc Cert.KernelIdeal.main_call0_values)
    = rTop V' (Proc.devRef .tc Cert.ReferenceIdeal.main_values) := by
  unfold kTop rTop
  after_reads_simp
  rw [h.scores]
  rfl

/-- The levels of the best boxes are the same. -/
theorem same_levels (h : SameArgs V V') : kTop V (Proc.devRef .tc Cert.KernelIdeal.main_call0_v13)
    = rTop V' (Proc.devRef .tc Cert.ReferenceIdeal.main_v13) := by
  unfold kTop rTop
  after_reads_simp
  rw [h.scores, h.levels]
  simp -implicitDefEqProofs only [TRef.toBuf, TRef.ofBuf, cast_cast, cast_eq, gather_boxes, gather_levels]

/-- The best boxes, clipped, are the same. -/
theorem same_boxes (h : SameArgs V V') : kTop V (Proc.devRef .tc Cert.KernelIdeal.main_call0_v30)
    = rTop V' (Proc.devRef .tc Cert.ReferenceIdeal.main_v30) := by
  unfold kTop rTop
  after_reads_simp
  dsimp only [Matrix.cons_val_zero, Matrix.cons_val_one, Matrix.cons_val, TRef.of]
  refine join_congr (h := Cert.KernelIdeal.Gen.concatenates_S2000x1_S2000x1_S2000x1_S2000x1_S2000x4_d1) (h' := Cert.KernelIdeal.Gen.concatenates_S2000x1_S2000x1_S2000x1_S2000x1_S2000x4_d1) ?_ ?_ ?_ ?_
  · after_reads_simp
    rw [h.scores, h.boxes]
    simp -implicitDefEqProofs only [TRef.toBuf, TRef.ofBuf, cast_cast, cast_eq, gather_boxes, gather_levels]
    rfl
  · after_reads_simp
    rw [h.scores, h.boxes]
    simp -implicitDefEqProofs only [TRef.toBuf, TRef.ofBuf, cast_cast, cast_eq, gather_boxes, gather_levels]
    rfl
  · after_reads_simp
    rw [h.scores, h.boxes]
    simp -implicitDefEqProofs only [TRef.toBuf, TRef.ofBuf, cast_cast, cast_eq, gather_boxes, gather_levels]
    rfl
  · after_reads_simp
    rw [h.scores, h.boxes]
    simp -implicitDefEqProofs only [TRef.toBuf, TRef.ofBuf, cast_cast, cast_eq, gather_boxes, gather_levels]
    rfl

/-- Both hold the same best boxes, their levels and their scores. -/
structure SameTop (X : KV) (X' : RV) : Prop where
  boxes : X (Proc.devRef .tc Cert.KernelIdeal.main_call0_v30) = X' (Proc.devRef .tc Cert.ReferenceIdeal.main_v30)
  levels : X (Proc.devRef .tc Cert.KernelIdeal.main_call0_v13) = X' (Proc.devRef .tc Cert.ReferenceIdeal.main_v13)
  values : X (Proc.devRef .tc Cert.KernelIdeal.main_call0_values) = X' (Proc.devRef .tc Cert.ReferenceIdeal.main_values)

/-- The first stages agree. -/
theorem same_top (h : SameArgs V V') : SameTop (kTop V) (rTop V') := ⟨same_boxes h, same_levels h, same_values h⟩

variable {X : KV} {X' : RV}

/-- Both hold the same boxes, marks of the boxes that count, masked scores and boxes moved apart. -/
structure SameMid (Y : KV) (Y' : RV) : Prop where
  boxes : Y (Proc.devRef .tc Cert.KernelIdeal.main_call0_v30) = Y' (Proc.devRef .tc Cert.ReferenceIdeal.main_v30)
  valid : Y (Proc.devRef .tc Cert.KernelIdeal.main_call0_v45) = Y' (Proc.devRef .tc Cert.ReferenceIdeal.main_v45)
  masked : Y (Proc.devRef .tc Cert.KernelIdeal.main_call0_v46) = Y' (Proc.devRef .tc Cert.ReferenceIdeal.main_v46)
  shifted : Y (Proc.devRef .tc Cert.KernelIdeal.main_call0_v54) = Y' (Proc.devRef .tc Cert.ReferenceIdeal.main_v54)

/-- The second stages leave the boxes. -/
theorem mid_v30 (h : SameTop X X') : kMid X (Proc.devRef .tc Cert.KernelIdeal.main_call0_v30) = rMid X' (Proc.devRef .tc Cert.ReferenceIdeal.main_v30) := by
  unfold kMid rMid
  after_reads_simp
  rw [h.boxes]

/-- The boxes that count are the same. -/
theorem mid_v45 (h : SameTop X X') : kMid X (Proc.devRef .tc Cert.KernelIdeal.main_call0_v45) = rMid X' (Proc.devRef .tc Cert.ReferenceIdeal.main_v45) := by
  unfold kMid rMid
  after_reads_simp
  rw [h.boxes]
  simp -implicitDefEqProofs only [TRef.toBuf, TRef.ofBuf, cast_cast, cast_eq]
  rfl

/-- The masked scores are the same. -/
theorem mid_v46 (h : SameTop X X') : kMid X (Proc.devRef .tc Cert.KernelIdeal.main_call0_v46) = rMid X' (Proc.devRef .tc Cert.ReferenceIdeal.main_v46) := by
  unfold kMid rMid
  after_reads_simp
  rw [h.boxes, h.values]
  simp -implicitDefEqProofs only [TRef.toBuf, TRef.ofBuf, cast_cast, cast_eq]
  rfl

/-- The boxes moved apart by level are the same. -/
theorem mid_v54 (h : SameTop X X') : kMid X (Proc.devRef .tc Cert.KernelIdeal.main_call0_v54) = rMid X' (Proc.devRef .tc Cert.ReferenceIdeal.main_v54) := by
  unfold kMid rMid
  after_reads_simp
  rw [h.boxes, h.levels]
  simp -implicitDefEqProofs only [TRef.toBuf, TRef.ofBuf, cast_cast, cast_eq]

/-- The second stages agree. -/
theorem same_mid (h : SameTop X X') : SameMid (kMid X) (rMid X') := ⟨mid_v30 h, mid_v45 h, mid_v46 h, mid_v54 h⟩

end Cert.Host
-- ==== Proof.Overlap.lean ====
/-
  Zero-or-one extended reals, and the overlap of two boxes: the scalars both programs compute with.
-/
module

public import Idealize.ShloMosaic.Lib.Pointwise
public import Idealize.ShloMosaic.Lib.IdealHost
public import Idealize.ShloMosaic.Lib.Scf

@[expose] public section

noncomputable section

namespace Cert.Greedy

open Idealize.ShloMosaic
open scoped Classical

/-- One where the statement holds, zero elsewhere. -/
def ind (p : Prop) : EReal := if p then 1 else 0

theorem ind_true {p : Prop} (h : p) : ind p = 1 := if_pos h
theorem ind_false {p : Prop} (h : ¬p) : ind p = 0 := if_neg h

/-- Two equivalent statements have one value. -/
theorem ind_congr {p q : Prop} (h : p ↔ q) : ind p = ind q := by rw [propext h]

/-- A comparison's bit, widened and converted, is its zero-or-one value. -/
theorem conv_bit (p : Prop) [Decidable p] :
    (FloatOps.sitofp (F := Ideal) FTy.f32 (BitVec.setWidth 32 (BitVec.ofBool (decide p))) : EReal) = ind p := by
  show (((BitVec.setWidth 32 (BitVec.ofBool (decide p))).toInt : ℝ) : EReal) = ind p
  by_cases h : p
  · rw [ind_true h, decide_eq_true h]
    have e : (BitVec.setWidth 32 (BitVec.ofBool true)).toInt = 1 := by decide
    rw [e]; norm_num
  · rw [ind_false h, decide_eq_false h]
    have e : (BitVec.setWidth 32 (BitVec.ofBool false)).toInt = 0 := by decide
    rw [e]; norm_num

/-- Both bits of two comparisons. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- Keeping what was kept and is not struck. -/
theorem ind_strike (p q : Prop) : ind p * (1 - ind q) = ind (p ∧ ¬q) := by
  have h1 : (1 : EReal) - 1 = 0 := by rw [← EReal.coe_one, ← EReal.coe_sub, sub_self, EReal.coe_zero]
  by_cases hp : p <;> by_cases hq : q <;> simp [ind, hp, hq, h1]

theorem ind_mul (p q : Prop) : ind p * ind q = ind (p ∧ q) := by
  by_cases hp : p <;> by_cases hq : q <;> simp [ind, hp, hq]

theorem ind_nonneg (p : Prop) : 0 ≤ ind p := by
  unfold ind; split <;> simp

/-- A zero-or-one value is above zero where its statement holds. -/
theorem ind_pos (p : Prop) : 0 < ind p ↔ p := by
  by_cases h : p <;> simp [ind, h]

/-- A half lies between zero and one. -/
theorem half_lt_ind (p : Prop) : Ideal.ofBits FTy.f32 0x3F000000#32 < ind p ↔ p := by
  have h : Ideal.ofBits FTy.f32 0x3F000000#32 = ((1 / 2 : ℝ) : EReal) := by
    simp [Ideal.ofBits, Ideal.ieee, -EReal.coe_mul]; norm_num
  rw [h]
  by_cases hp : p
  · rw [ind_true hp, ← EReal.coe_one, EReal.coe_lt_coe_iff]
    simp only [hp, iff_true]; norm_num
  · rw [ind_false hp, ← EReal.coe_zero, EReal.coe_lt_coe_iff]
    simp only [hp, iff_false]; norm_num

/-- A sum of zero-or-one values is above zero where one of the statements holds. -/
theorem sum_pos_iff {ι : Type} [Fintype ι] (p : ι → Prop) : 0 < ∑ x, ind (p x) ↔ ∃ x, p x := by
  constructor
  · intro h
    by_contra hn
    rw [Finset.sum_eq_zero fun x _ => ind_false fun hx => hn ⟨x, hx⟩] at h
    exact lt_irrefl _ h
  · rintro ⟨x, hx⟩
    exact lt_of_lt_of_le ((ind_pos _).mpr hx) (Finset.single_le_sum (f := fun x => ind (p x)) (fun y _ => ind_nonneg _) (Finset.mem_univ x))

/-- Picking one entry of a row by a one-hot factor. -/
theorem sum_pick {n : ℕ} (a : Fin n → EReal) (r : ℕ) (hr : r < n) : ∑ x : Fin n, a x * ind (x.val = r) = a ⟨r, hr⟩ := by
  rw [Finset.sum_eq_single ⟨r, hr⟩]
  · simp [ind]
  · intro b _ hb
    rw [ind_false fun h => hb (Fin.ext h), mul_zero]
  · intro h; exact absurd (Finset.mem_univ _) h

/-- A loop's counter from zero by ones. -/
theorem count_word (r : ℕ) : Scf.iv 0#32 1#32 r = BitVec.ofNat 32 r := by
  unfold Scf.iv; rw [BitVec.mul_one, BitVec.zero_add]

theorem small_toInt {a : ℕ} (ha : a < 2 ^ 31) : (BitVec.ofNat 32 a).toInt = a := by
  have h : (BitVec.ofNat 32 a).toNat = a := by rw [BitVec.toNat_ofNat]; omega
  rw [BitVec.toInt_eq_toNat_of_lt (by omega), h]

/-- Signed comparison of two small words. -/
theorem gt_word {a b : ℕ} (ha : a < 2 ^ 31) (hb : b < 2 ^ 31) :
    IntOp.cmpi CmpIPredicate.sgt (BitVec.ofNat 32 a) (BitVec.ofNat 32 b) = BitVec.ofBool (decide (b < a)) := by
  show BitVec.ofBool ((BitVec.ofNat 32 b).slt (BitVec.ofNat 32 a)) = _
  rw [BitVec.slt, small_toInt ha, small_toInt hb]
  simp

/-- Equality of two small words. -/
theorem eq_word {a b : ℕ} (ha : a < 2 ^ 31) (hb : b < 2 ^ 31) :
    IntOp.cmpi CmpIPredicate.eq (BitVec.ofNat 32 a) (BitVec.ofNat 32 b) = BitVec.ofBool (decide (a = b)) := by
  show BitVec.ofBool ((BitVec.ofNat 32 a) == (BitVec.ofNat 32 b)) = _
  congr 1
  rw [Bool.eq_iff_iff]
  simp only [beq_iff_eq, decide_eq_true_eq]
  constructor
  · intro h
    have := congrArg BitVec.toInt h
    rw [small_toInt ha, small_toInt hb] at this
    exact_mod_cast this
  · intro h; rw [h]

/-- The area two boxes share: the product of the two overlaps, each cut at zero. -/
def shared (a b : Fin 4 → EReal) : EReal :=
  max (min (a 2) (b 2) - max (a 0) (b 0)) 0 * max (min (a 3) (b 3) - max (a 1) (b 1)) 0

/-- The area of a box. -/
def area (a : Fin 4 → EReal) : EReal := (a 2 - a 0) * (a 3 - a 1)

/-- The ratio of shared area to joint area. -/
def ratio (a b : Fin 4 → EReal) : EReal :=
  Ideal.div (shared a b) (area a + area b - shared a b + Ideal.ofBits FTy.f32 814313567#32)

/-- The ratio is above the threshold. -/
def over (a b : Fin 4 → EReal) : Prop := Ideal.ofBits FTy.f32 1060320051#32 < ratio a b

/-- Two predicates on indices that obey the same greedy rule below a bound agree below it. -/
theorem greedy_unique (n : ℕ) (sup sup' : ℕ → ℕ → Prop) (A B : ℕ → Prop)
    (hs : ∀ i j, i < j → j < n → (sup i j ↔ sup' i j))
    (hA : ∀ j, j < n → (A j ↔ ∀ i, i < j → A i → ¬ sup i j)) (hB : ∀ j, j < n → (B j ↔ ∀ i, i < j → B i → ¬ sup' i j)) :
    ∀ j, j < n → (A j ↔ B j) := by
  intro j
  induction j using Nat.strong_induction_on with
  | _ j ih =>
    intro hj
    rw [hA j hj, hB j hj]
    constructor
    · intro h i hi hBi hsu
      exact h i hi ((ih i hi (by omega)).mpr hBi) ((hs i j hi hj).mpr hsu)
    · intro h i hi hAi hsu
      exact h i hi ((ih i hi (by omega)).mp hAi) ((hs i j hi hj).mp hsu)

/-- The greedy choice: an index is kept when no kept earlier one strikes it. -/
def kept (sup : ℕ → ℕ → Prop) (j : ℕ) : Prop := ∀ i, (h : i < j) → kept sup i → ¬ sup i j
termination_by j

theorem kept_iff (sup : ℕ → ℕ → Prop) (j : ℕ) : kept sup j ↔ ∀ i, i < j → kept sup i → ¬ sup i j := by
  rw [kept]

/-- No kept index below `n` strikes `j`. -/
def clear (sup : ℕ → ℕ → Prop) (n j : ℕ) : Prop := ∀ i, i < n → i < j → kept sup i → ¬ sup i j

theorem clear_zero (sup : ℕ → ℕ → Prop) (j : ℕ) : clear sup 0 j := fun _ h => absurd h (Nat.not_lt_zero _)

theorem clear_kept (sup : ℕ → ℕ → Prop) {n j : ℕ} (h : j ≤ n) : clear sup n j ↔ kept sup j := by
  rw [kept_iff]
  exact ⟨fun hc i hi => hc i (by omega) hi, fun hc i _ hi => hc i hi⟩

/-- One more striker. -/
theorem clear_succ (sup : ℕ → ℕ → Prop) (n j : ℕ) : clear sup (n + 1) j ↔ (clear sup n j ∧ ¬((sup n j ∧ n < j) ∧ kept sup n)) := by
  constructor
  · intro h
    exact ⟨fun i hi => h i (by omega), fun ⟨⟨h1, h2⟩, h3⟩ => h n (by omega) h2 h3 h1⟩
  · rintro ⟨h, h'⟩ i hi hij hk hs
    rcases Nat.lt_succ_iff_lt_or_eq.mp hi with h1 | h1
    · exact h i h1 hij hk hs
    · subst h1; exact h' ⟨⟨hs, hij⟩, hk⟩

/-- A whole block of strikers, all before `j`. -/
theorem clear_block (sup : ℕ → ℕ → Prop) (n b j : ℕ) (hj : n + b ≤ j) :
    clear sup (n + b) j ↔ (clear sup n j ∧ ¬∃ x : Fin b, kept sup (n + x) ∧ sup (n + x) j) := by
  constructor
  · intro h
    exact ⟨fun i hi => h i (by omega), fun ⟨x, h1, h2⟩ => h (n + x) (by omega) (by omega) h1 h2⟩
  · rintro ⟨h, h'⟩ i hi hij hk hs
    by_cases h1 : i < n
    · exact h i h1 hij hk hs
    · exact h' ⟨⟨i - n, by omega⟩, by rw [show n + (i - n) = i by omega]; exact ⟨hk, hs⟩⟩

end Cert.Greedy
-- ==== Proof.KeepValue.lean ====
/-
  The kernel's keep matrix at exact extended reals: after every block, entry `(a, b)` is one exactly when the greedy
  choice keeps index `128 a + b`.
-/
module

public import proofs.«01_k».proof.Proof.IdealBlocks
public import proofs.«01_k».proof.Proof.Overlap

@[expose] public section

set_option maxRecDepth 16384

noncomputable section

namespace Cert.KernelIdeal.Nms

open Cert.KernelIdeal Cert.KernelIdeal.Gen Cert.Greedy
open Idealize.ShloMosaic Idealize.ShloMosaic.TcCoe

/-! ## The payloads at an entry -/

/-- One row step: a kept entry is struck when its overlap with row `r` is over the threshold, it comes later, and `r` is kept. -/
theorem pay4_entry (r : Fin k0_t2_loop.trips) (a : FVec Ideal S1x128 .f32) (b : Vec Ideal S1x128 .f32) (p : ℕ → Prop)
    (ha : ∀ l : Fin 128, a (ix2 (0 : Fin 1) l) = ind (p l)) (l : Fin 128) :
    k0_pay4 (F := Ideal) r a b (ix2 (0 : Fin 1) l)
      = ind (p l ∧ ¬((Ideal.ofBits FTy.f32 1060320051#32 < (b (ix2 (0 : Fin 1) l) : EReal) ∧ r.val < l.val) ∧ p r)) := by
  have hr : r.val < 128 := lt_of_lt_of_le r.2 k0_t2_abs.2.1
  have hl := l.2
  pointwise [k0_pay4]
  simp only [ha]
  have e : ∀ x : Fin 128, (FloatOps.sitofp (F := Ideal) FTy.f32 (BitVec.setWidth 32 (IntOp.cmpi CmpIPredicate.eq (BitVec.ofNat 32 x.val) (Scf.iv 0#32 1#32 r.val))) : EReal)
      = ind (x.val = r.val) := fun x => by
    have hx := x.2
    rw [count_word, eq_word (by omega) (by omega), conv_bit]
  simp only [e]
  simp only [Finset.univ_unique, Finset.sum_singleton]
  rw [sum_pick (fun x : Fin 128 => ind (p x.val)) r.val hr]
  rw [count_word, gt_word (by omega) (by omega), and_bits, and_bits, conv_bit, ind_strike]
  refine ind_congr (and_congr_right fun _ => not_congr (and_congr_right fun _ => ?_))
  exact half_lt_ind _

/-- The row of a later block: a kept entry is struck when the counting row is above zero there. -/
theorem pay5_entry (a : FVec Ideal S1x128 .f32) (b : FVec Ideal S1x128 .f32) (p q : Prop) (l : Fin 128)
    (hb : b (ix2 (0 : Fin 1) l) = ind p) (ha : (0 : EReal) < a (ix2 (0 : Fin 1) l) ↔ q) :
    k0_pay5 (F := Ideal) a b (ix2 (0 : Fin 1) l) = ind (p ∧ ¬q) := by
  pointwise [k0_pay5]
  rw [conv_bit, hb, ind_strike]
  exact ind_congr (and_congr_right fun _ => not_congr ha)

/-- The counting row: above zero where some kept row of the block overlaps the entry over the threshold. -/
theorem pay7_entry (c0 c1 c2 c3 : Vec Ideal S128x1 .f32) (v : FVec Ideal S1x128 .f32) (r4 r5 r6 r7 : Vec Ideal S1x128 .f32)
    (bc : Fin 128 → Fin 4 → EReal) (br : Fin 128 → Fin 4 → EReal) (p : Fin 128 → Prop)
    (h0 : ∀ x : Fin 128, c0 (ix2 x (0 : Fin 1)) = bc x 0) (h1 : ∀ x : Fin 128, c1 (ix2 x (0 : Fin 1)) = bc x 1)
    (h2 : ∀ x : Fin 128, c2 (ix2 x (0 : Fin 1)) = bc x 2) (h3 : ∀ x : Fin 128, c3 (ix2 x (0 : Fin 1)) = bc x 3)
    (h4 : ∀ x : Fin 128, r4 (ix2 (0 : Fin 1) x) = br x 0) (h5 : ∀ x : Fin 128, r5 (ix2 (0 : Fin 1) x) = br x 1)
    (h6 : ∀ x : Fin 128, r6 (ix2 (0 : Fin 1) x) = br x 2) (h7 : ∀ x : Fin 128, r7 (ix2 (0 : Fin 1) x) = br x 3)
    (hv : ∀ x : Fin 128, v (ix2 (0 : Fin 1) x) = ind (p x)) (l : Fin 128) :
    (0 : EReal) < k0_pay7 (F := Ideal) (k0_pay11 c0) (k0_pay12 c1) (k0_pay13 c2) (k0_pay14 c3) (k0_pay15 c0 c1 c2 c3) v r4 r5 r6 r7 (ix2 (0 : Fin 1) l)
      ↔ ∃ x : Fin 128, p x ∧ over (bc x) (br l) := by
  pointwise [k0_pay7, k0_pay11, k0_pay12, k0_pay13, k0_pay14, k0_pay15]
  simp only [h0, h1, h2, h3, h4, h5, h6, h7, hv, conv_bit, ind_mul]
  exact sum_pos_iff _

/-- The overlap matrix of a block at an entry. -/
theorem pay2_entry (c0 c1 c2 c3 : Vec Ideal S128x1 .f32) (r4 r5 r6 r7 : Vec Ideal S1x128 .f32)
    (bc : Fin 128 → Fin 4 → EReal) (br : Fin 128 → Fin 4 → EReal)
    (h0 : ∀ x : Fin 128, c0 (ix2 x (0 : Fin 1)) = bc x 0) (h1 : ∀ x : Fin 128, c1 (ix2 x (0 : Fin 1)) = bc x 1)
    (h2 : ∀ x : Fin 128, c2 (ix2 x (0 : Fin 1)) = bc x 2) (h3 : ∀ x : Fin 128, c3 (ix2 x (0 : Fin 1)) = bc x 3)
    (h4 : ∀ x : Fin 128, r4 (ix2 (0 : Fin 1) x) = br x 0) (h5 : ∀ x : Fin 128, r5 (ix2 (0 : Fin 1) x) = br x 1)
    (h6 : ∀ x : Fin 128, r6 (ix2 (0 : Fin 1) x) = br x 2) (h7 : ∀ x : Fin 128, r7 (ix2 (0 : Fin 1) x) = br x 3) (k l : Fin 128) :
    k0_pay2 (F := Ideal) (k0_pay12 c1) (k0_pay15 c0 c1 c2 c3) (k0_pay17 r5) (k0_pay20 r4 r5 r6 r7) (k0_pay21 c0 c2 r4 r6) (k0_pay22 c3 r7) (ix2 k l)
      = ratio (bc k) (br l) := by
  pointwise [k0_pay2, k0_pay11, k0_pay12, k0_pay13, k0_pay14, k0_pay15, k0_pay16, k0_pay17, k0_pay18, k0_pay19, k0_pay20, k0_pay21, k0_pay22]
  simp only [h0, h1, h2, h3, h4, h5, h6, h7]
  rfl

/-! ## The rows and columns read -/

theorem blkCol_entry (X : Vec Ideal S2048x1 .f32) (k : Fin k0_t1_loop.trips) (r : Fin 128) (h : 128 * k.val + r.val < 2048) :
    blkCol X k (ix2 r (0 : Fin 1)) = X (ix2 (⟨128 * k.val + r.val, h⟩ : Fin 2048) (0 : Fin 1)) := by
  pointwise [blkCol, k0_off1_eq]

theorem blkRow_entry (X : Vec Ideal S16x128 .f32) (k : Fin k0_t1_loop.trips) (l : Fin 128) (h : k.val < 16) :
    blkRow X k (ix2 (0 : Fin 1) l) = X (ix2 (⟨k.val, h⟩ : Fin 16) l) := by
  pointwise [blkRow, k0_off2_eq]

theorem laterRow_entry (X : Vec Ideal S16x128 .f32) (k : Fin k0_t1_loop.trips) (j : Fin (k0_t3_loop k).trips) (l : Fin 128)
    (h : k.val + j.val + 1 < 16) :
    laterRow X k j (ix2 (0 : Fin 1) l) = X (ix2 (⟨k.val + j.val + 1, h⟩ : Fin 16) l) := by
  pointwise [laterRow, k0_off4_eq]

theorem putRow_entry (K : Vec Ideal S16x128 .f32) (i : ℕ) (v : Vec Ideal S1x128 .f32) (a : Fin 16) (b : Fin 128) :
    putRow K i v (ix2 a b) = if a.val = i then v (ix2 (0 : Fin 1) b) else K (ix2 a b) := rfl

theorem trips1 : k0_t1_loop.trips = 16 := by decide
theorem trips2 : k0_t2_loop.trips = 128 := by decide
theorem trips3 : ∀ k : Fin k0_t1_loop.trips, (k0_t3_loop k).trips = 15 - k.val := by decide

/-! ## The keep matrix -/

/-- The staged columns and rows hold the coordinates of one list of boxes. -/
structure Holds (bx : ℕ → Fin 4 → EReal) (Y0 Y1 Y2 Y3 : Vec Ideal S2048x1 .f32) (Y4 Y5 Y6 Y7 : Vec Ideal S16x128 .f32) : Prop where
  c0 : ∀ r : Fin 2048, Y0 (ix2 r (0 : Fin 1)) = bx r.val 0
  c1 : ∀ r : Fin 2048, Y1 (ix2 r (0 : Fin 1)) = bx r.val 1
  c2 : ∀ r : Fin 2048, Y2 (ix2 r (0 : Fin 1)) = bx r.val 2
  c3 : ∀ r : Fin 2048, Y3 (ix2 r (0 : Fin 1)) = bx r.val 3
  r0 : ∀ (a : Fin 16) (b : Fin 128), Y4 (ix2 a b) = bx (128 * a.val + b.val) 0
  r1 : ∀ (a : Fin 16) (b : Fin 128), Y5 (ix2 a b) = bx (128 * a.val + b.val) 1
  r2 : ∀ (a : Fin 16) (b : Fin 128), Y6 (ix2 a b) = bx (128 * a.val + b.val) 2
  r3 : ∀ (a : Fin 16) (b : Fin 128), Y7 (ix2 a b) = bx (128 * a.val + b.val) 3

variable {bx : ℕ → Fin 4 → EReal} {Y0 Y1 Y2 Y3 : Vec Ideal S2048x1 .f32} {Y4 Y5 Y6 Y7 : Vec Ideal S16x128 .f32}

/-- Box `i` overlaps box `j` over the threshold. -/
abbrev strikes (bx : ℕ → Fin 4 → EReal) (i j : ℕ) : Prop := over (bx i) (bx j)

theorem col_entry (X : Vec Ideal S2048x1 .f32) (q : Fin 4) (h : ∀ r : Fin 2048, X (ix2 r (0 : Fin 1)) = bx r.val q)
    (k : Fin k0_t1_loop.trips) (x : Fin 128) : blkCol X k (ix2 x (0 : Fin 1)) = bx (128 * k.val + x.val) q := by
  have hk : k.val < 16 := lt_of_lt_of_le k.2 k0_t1_abs.2.1
  have hx := x.2
  rw [blkCol_entry X k x (by omega), h]

theorem row_entry (X : Vec Ideal S16x128 .f32) (q : Fin 4) (h : ∀ (a : Fin 16) (b : Fin 128), X (ix2 a b) = bx (128 * a.val + b.val) q)
    (k : Fin k0_t1_loop.trips) (x : Fin 128) : blkRow X k (ix2 (0 : Fin 1) x) = bx (128 * k.val + x.val) q := by
  have hk : k.val < 16 := lt_of_lt_of_le k.2 k0_t1_abs.2.1
  rw [blkRow_entry X k x hk, h]

theorem later_entry (X : Vec Ideal S16x128 .f32) (q : Fin 4) (h : ∀ (a : Fin 16) (b : Fin 128), X (ix2 a b) = bx (128 * a.val + b.val) q)
    (k : Fin k0_t1_loop.trips) (j : Fin (k0_t3_loop k).trips) (x : Fin 128) :
    laterRow X k j (ix2 (0 : Fin 1) x) = bx (128 * (k.val + j.val + 1) + x.val) q := by
  have hj := lt_of_lt_of_eq j.2 (trips3 k)
  rw [laterRow_entry X k j x (by omega), h]

/-- The overlap matrix of block `k` at an entry. -/
theorem iouB_entry (H : Holds bx Y0 Y1 Y2 Y3 Y4 Y5 Y6 Y7) (k : Fin k0_t1_loop.trips) (x l : Fin 128) :
    iouB Y0 Y1 Y2 Y3 Y4 Y5 Y6 Y7 k (ix2 x l) = ratio (bx (128 * k.val + x.val)) (bx (128 * k.val + l.val)) :=
  pay2_entry _ _ _ _ _ _ _ _ (fun x => bx (128 * k.val + x.val)) (fun x => bx (128 * k.val + x.val))
    (col_entry Y0 0 H.c0 k) (col_entry Y1 1 H.c1 k) (col_entry Y2 2 H.c2 k) (col_entry Y3 3 H.c3 k)
    (row_entry Y4 0 H.r0 k) (row_entry Y5 1 H.r1 k) (row_entry Y6 2 H.r2 k) (row_entry Y7 3 H.r3 k) x l

theorem matrix_row (M : Vec Ideal S128x128 .f32) (r : Fin k0_t2_loop.trips) (l : Fin 128) (h : r.val < 128) :
    View.ld M (Rect.unit (k0_off3 r) ![1, 128] (k0_off3_inb r)) (ix2 (0 : Fin 1) l) = M (ix2 (⟨r.val, h⟩ : Fin 128) l) := by
  pointwise [k0_off3_eq]

/-- The scan over the rows of block `k`: entry `l` holds whether no kept index before row `r` strikes it. -/
theorem scan_entry (H : Holds bx Y0 Y1 Y2 Y3 Y4 Y5 Y6 Y7) (k : Fin k0_t1_loop.trips) (v : Vec Ideal S1x128 .f32)
    (hv : ∀ l : Fin 128, v (ix2 (0 : Fin 1) l) = ind (clear (strikes bx) (128 * k.val) (128 * k.val + l.val))) :
    ∀ (r : ℕ), r ≤ 128 → ∀ l : Fin 128, scan (iouB Y0 Y1 Y2 Y3 Y4 Y5 Y6 Y7 k) v r (ix2 (0 : Fin 1) l)
      = ind (clear (strikes bx) (128 * k.val + r) (128 * k.val + l.val))
  | 0, _, l => by
    rw [scan]
    pointwise [k0_pay3]
    exact hv l
  | r + 1, hr, l => by
    have h2 : r < k0_t2_loop.trips := by rw [trips2]; omega
    rw [scan, dif_pos h2, pay4_entry ⟨r, h2⟩ _ _ (fun l => clear (strikes bx) (128 * k.val + r) (128 * k.val + l))
      (scan_entry H k v hv r (by omega)) l]
    rw [matrix_row _ ⟨r, h2⟩ l (show r < 128 by omega), iouB_entry H k]
    refine ind_congr ?_
    rw [← Nat.add_assoc, clear_succ]
    refine and_congr_right fun _ => not_congr (and_congr (and_congr Iff.rfl ?_) (clear_kept _ le_rfl))
    show r < l.val ↔ _
    omega

/-- The keep matrix with the blocks below `n` done: entry `(a, b)` holds whether no kept index below `n` strikes it. -/
def Done (bx : ℕ → Fin 4 → EReal) (n : ℕ) (K : Vec Ideal S16x128 .f32) (P : ℕ → Prop) : Prop :=
  ∀ (a : Fin 16) (b : Fin 128), P a.val → K (ix2 a b) = ind (clear (strikes bx) n (128 * a.val + b.val))

/-- The row of block `k` after its scan is the greedy choice on that block. -/
theorem finalRow_entry (H : Holds bx Y0 Y1 Y2 Y3 Y4 Y5 Y6 Y7) (k : Fin k0_t1_loop.trips) (K : Vec Ideal S16x128 .f32)
    (hK : Done bx (128 * k.val) K fun _ => True) (l : Fin 128) :
    finalRow Y0 Y1 Y2 Y3 Y4 Y5 Y6 Y7 k K (ix2 (0 : Fin 1) l) = ind (clear (strikes bx) (128 * (k.val + 1)) (128 * k.val + l.val)) := by
  have hk : k.val < 16 := lt_of_lt_of_le k.2 k0_t1_abs.2.1
  have h := scan_entry H k (blkRow K k) (fun l => by rw [blkRow_entry K k l hk]; exact hK ⟨k.val, hk⟩ l trivial) 128 le_rfl l
  unfold finalRow
  rw [trips2, h, Nat.mul_add, Nat.mul_one]

/-- The loop over the later blocks: the first `j` of them are struck by block `k`. -/
theorem cross_entry (H : Holds bx Y0 Y1 Y2 Y3 Y4 Y5 Y6 Y7) (k : Fin k0_t1_loop.trips) (v : Vec Ideal S1x128 .f32) (K : Vec Ideal S16x128 .f32)
    (hv : ∀ l : Fin 128, v (ix2 (0 : Fin 1) l) = ind (clear (strikes bx) (128 * (k.val + 1)) (128 * k.val + l.val)))
    (hlow : Done bx (128 * (k.val + 1)) K fun a => a ≤ k.val) (hhigh : Done bx (128 * k.val) K fun a => k.val < a) :
    ∀ j : ℕ, j ≤ (k0_t3_loop k).trips →
      Done bx (128 * (k.val + 1)) (cross Y0 Y1 Y2 Y3 Y4 Y5 Y6 Y7 k v K j) (fun a => a ≤ k.val + j)
        ∧ Done bx (128 * k.val) (cross Y0 Y1 Y2 Y3 Y4 Y5 Y6 Y7 k v K j) (fun a => k.val + j < a)
  | 0, _ => ⟨hlow, hhigh⟩
  | j + 1, hj => by
    have h3 : j < (k0_t3_loop k).trips := hj
    obtain ⟨ihl, ihh⟩ := cross_entry H k v K hv hlow hhigh j (by omega)
    have h16 : k.val + j + 1 < 16 := by rw [trips3 k] at h3; omega
    rw [cross, dif_pos h3]
    constructor
    · intro a b ha
      rw [putRow_entry]
      by_cases hab : a.val = k.val + j + 1
      · rw [if_pos hab]
        have hx := b.2
        rw [pay5_entry _ _ (clear (strikes bx) (128 * k.val) (128 * a.val + b.val))
          (∃ x : Fin 128, clear (strikes bx) (128 * (k.val + 1)) (128 * k.val + x.val) ∧ over (bx (128 * k.val + x.val)) (bx (128 * (k.val + j + 1) + b.val))) b ?_ ?_]
        · refine ind_congr ?_
          have h := clear_block (strikes bx) (128 * k.val) 128 (128 * a.val + b.val) (by omega)
          rw [Nat.mul_add, Nat.mul_one, h, hab]
          refine and_congr_right fun _ => not_congr (exists_congr fun x => and_congr_left fun _ => ?_)
          have hx' := x.2
          exact clear_kept _ (by omega)
        · pointwise [k0_pay8]
          rw [laterRow_entry _ k ⟨j, h3⟩ b h16]
          have := ihh ⟨k.val + j + 1, h16⟩ b (show k.val + j < k.val + j + 1 by omega)
          rw [this, hab]
        · exact pay7_entry _ _ _ _ _ _ _ _ _ (fun x => bx (128 * k.val + x.val)) (fun x => bx (128 * (k.val + j + 1) + x.val)) _
            (col_entry Y0 0 H.c0 k) (col_entry Y1 1 H.c1 k) (col_entry Y2 2 H.c2 k) (col_entry Y3 3 H.c3 k)
            (later_entry Y4 0 H.r0 k ⟨j, h3⟩) (later_entry Y5 1 H.r1 k ⟨j, h3⟩) (later_entry Y6 2 H.r2 k ⟨j, h3⟩) (later_entry Y7 3 H.r3 k ⟨j, h3⟩)
            hv b
      · rw [if_neg hab]
        exact ihl a b (by omega)
    · intro a b ha
      rw [putRow_entry, if_neg (by omega)]
      exact ihh a b (by omega)

/-- The keep matrix before trip `k`. -/
theorem keepAt_entry (H : Holds bx Y0 Y1 Y2 Y3 Y4 Y5 Y6 Y7) :
    ∀ k : ℕ, k ≤ 16 → Done bx (128 * k) (keepAt Y0 Y1 Y2 Y3 Y4 Y5 Y6 Y7 k) fun _ => True
  | 0, _ => fun a b _ => by
    rw [keepAt, ind_true (clear_zero _ _)]
    pointwise [k0_pay1]
  | k + 1, hk => by
    have h1 : k < k0_t1_loop.trips := by rw [trips1]; omega
    have ih := keepAt_entry H k (by omega)
    have hf := finalRow_entry H ⟨k, h1⟩ _ ih
    rw [keepAt, dif_pos h1]
    unfold keepStep
    intro a b _
    have h := cross_entry H ⟨k, h1⟩ _ (putRow (keepAt Y0 Y1 Y2 Y3 Y4 Y5 Y6 Y7 k) k (finalRow Y0 Y1 Y2 Y3 Y4 Y5 Y6 Y7 ⟨k, h1⟩ (keepAt Y0 Y1 Y2 Y3 Y4 Y5 Y6 Y7 k))) hf
      (fun a b (ha : a.val ≤ k) => by
        rw [putRow_entry]
        by_cases hab : a.val = k
        · rw [if_pos hab, hab]; exact hf b
        · rw [if_neg hab, ih a b trivial]
          have hb := b.2
          refine ind_congr ?_
          rw [clear_kept _ (by omega), clear_kept _ (by show _ ≤ 128 * (k + 1); omega)])
      (fun a b (ha : k < a.val) => by rw [putRow_entry, if_neg (by omega)]; exact ih a b trivial)
      (k0_t3_loop ⟨k, h1⟩).trips le_rfl
    have ha := a.2
    exact h.1 a b (by show a.val ≤ k + _; rw [trips3 ⟨k, h1⟩]; show a.val ≤ k + (15 - k); omega)

/-- The finished keep matrix is the greedy choice. -/
theorem keep_entry (H : Holds bx Y0 Y1 Y2 Y3 Y4 Y5 Y6 Y7) (a : Fin 16) (b : Fin 128) :
    keepAt Y0 Y1 Y2 Y3 Y4 Y5 Y6 Y7 k0_t1_loop.trips (ix2 a b) = ind (kept (strikes bx) (128 * a.val + b.val)) := by
  have ha := a.2
  have hb := b.2
  rw [trips1, keepAt_entry H 16 le_rfl a b trivial]
  exact ind_congr (clear_kept _ (by omega))

end Cert.KernelIdeal.Nms
-- ==== Proof.Staged.lean ====
/-
  What the kernel is handed: the boxes moved apart by level, padded with zeroes to 2048, one column at a time, both
  standing (one box a row) and laid in rows of 128.
-/
module

public import proofs.«01_k».proof.Proof.HostSame
public import proofs.«01_k».proof.Proof.KeepValue

@[expose] public section

set_option maxRecDepth 16384

noncomputable section

namespace Cert.Host

open Idealize.ShloMosaic Idealize.ShloMosaic.TcCoe Idealize.ShloMosaic.StableHlo
open Cert.KernelIdeal

/-- The coordinates of box `n`: those of the array for the first 2000, zero after them. -/
def boxAt (S : FVec Ideal S2000x4 .f32) (n : ℕ) (q : Fin 4) : EReal := if h : n < 2000 then S (ix2 ⟨n, h⟩ q) else 0

variable (Y : KV)

/-- The number zero as a float is zero. -/
theorem float_zero : FloatOps.sitofp (F := Ideal) FTy.f32 0#32 = (0 : EReal) := by
  show (((0#32 : BitVec 32).toInt : ℝ) : EReal) = 0
  simp

/-- The left edges, standing. -/
theorem staged_v58 (r : Fin 2048) : kEnd Y (Proc.devRef .tc main_call0_v58) (ix2 r (0 : Fin 1)) = boxAt (Y (Proc.devRef .tc main_call0_v54)) r.val 0 := by
  unfold kEnd
  after_reads_simp
  simp -implicitDefEqProofs only [TRef.toBuf, TRef.ofBuf, cast_cast, cast_eq]
  pointwise
  rw [float_zero]
  rfl

/-- The left edges, in rows of 128. -/
theorem staged_v70 (a : Fin 16) (b : Fin 128) : kEnd Y (Proc.devRef .tc main_call0_v70) (ix2 a b) = boxAt (Y (Proc.devRef .tc main_call0_v54)) (128 * a.val + b.val) 0 := by
  rw [Nat.mul_comm 128 a.val]
  unfold kEnd
  after_reads_simp
  simp -implicitDefEqProofs only [TRef.toBuf, TRef.ofBuf, cast_cast, cast_eq]
  pointwise
  rw [float_zero]
  rfl

/-- The top edges, standing. -/
theorem staged_v61 (r : Fin 2048) : kEnd Y (Proc.devRef .tc main_call0_v61) (ix2 r (0 : Fin 1)) = boxAt (Y (Proc.devRef .tc main_call0_v54)) r.val 1 := by
  unfold kEnd
  after_reads_simp
  simp -implicitDefEqProofs only [TRef.toBuf, TRef.ofBuf, cast_cast, cast_eq]
  pointwise
  rw [float_zero]
  rfl

/-- The top edges, in rows of 128. -/
theorem staged_v73 (a : Fin 16) (b : Fin 128) : kEnd Y (Proc.devRef .tc main_call0_v73) (ix2 a b) = boxAt (Y (Proc.devRef .tc main_call0_v54)) (128 * a.val + b.val) 1 := by
  rw [Nat.mul_comm 128 a.val]
  unfold kEnd
  after_reads_simp
  simp -implicitDefEqProofs only [TRef.toBuf, TRef.ofBuf, cast_cast, cast_eq]
  pointwise
  rw [float_zero]
  rfl

/-- The right edges, standing. -/
theorem staged_v64 (r : Fin 2048) : kEnd Y (Proc.devRef .tc main_call0_v64) (ix2 r (0 : Fin 1)) = boxAt (Y (Proc.devRef .tc main_call0_v54)) r.val 2 := by
  unfold kEnd
  after_reads_simp
  simp -implicitDefEqProofs only [TRef.toBuf, TRef.ofBuf, cast_cast, cast_eq]
  pointwise
  rw [float_zero]
  rfl

/-- The right edges, in rows of 128. -/
theorem staged_v76 (a : Fin 16) (b : Fin 128) : kEnd Y (Proc.devRef .tc main_call0_v76) (ix2 a b) = boxAt (Y (Proc.devRef .tc main_call0_v54)) (128 * a.val + b.val) 2 := by
  rw [Nat.mul_comm 128 a.val]
  unfold kEnd
  after_reads_simp
  simp -implicitDefEqProofs only [TRef.toBuf, TRef.ofBuf, cast_cast, cast_eq]
  pointwise
  rw [float_zero]
  rfl

/-- The bottom edges, standing. -/
theorem staged_v67 (r : Fin 2048) : kEnd Y (Proc.devRef .tc main_call0_v67) (ix2 r (0 : Fin 1)) = boxAt (Y (Proc.devRef .tc main_call0_v54)) r.val 3 := by
  unfold kEnd
  after_reads_simp
  simp -implicitDefEqProofs only [TRef.toBuf, TRef.ofBuf, cast_cast, cast_eq]
  pointwise
  rw [float_zero]
  rfl

/-- The bottom edges, in rows of 128. -/
theorem staged_v79 (a : Fin 16) (b : Fin 128) : kEnd Y (Proc.devRef .tc main_call0_v79) (ix2 a b) = boxAt (Y (Proc.devRef .tc main_call0_v54)) (128 * a.val + b.val) 3 := by
  rw [Nat.mul_comm 128 a.val]
  unfold kEnd
  after_reads_simp
  simp -implicitDefEqProofs only [TRef.toBuf, TRef.ofBuf, cast_cast, cast_eq]
  pointwise
  rw [float_zero]
  rfl

/-- The third stage leaves the boxes. -/
theorem end_v30 : kEnd Y (Proc.devRef .tc main_call0_v30) = Y (Proc.devRef .tc main_call0_v30) := by
  unfold kEnd
  after_reads_simp

/-- The third stage leaves the marks. -/
theorem end_v45 : kEnd Y (Proc.devRef .tc main_call0_v45) = Y (Proc.devRef .tc main_call0_v45) := by
  unfold kEnd
  after_reads_simp

/-- The third stage leaves the masked scores. -/
theorem end_v46 : kEnd Y (Proc.devRef .tc main_call0_v46) = Y (Proc.devRef .tc main_call0_v46) := by
  unfold kEnd
  after_reads_simp

end Cert.Host
-- ==== Proof.IdealResult.lean ====
/-
  The kernel's run, read: its result array is what the host makes of the keep matrix, and the keep matrix holds one
  exactly at the boxes the greedy choice keeps.
-/
module

public import proofs.«01_k».proof.Proof.IdealRun
public import proofs.«01_k».proof.Proof.Staged
public import Idealize.ShloMosaic.Lib.Pipeline.Value

@[expose] public section

set_option maxRecDepth 16384

noncomputable section

namespace Cert.KernelIdeal.Nms

open Cert.KernelIdeal Cert.KernelIdeal.Gen Cert.Host Cert.Greedy
open Idealize.ShloMosaic Idealize.ShloMosaic.TcCoe Idealize.ShloMosaic.StableHlo
open Idealize.ShloMosaic.Pipeline

variable (m : (ℓ : Loc nD τ sig) → Buf (Elt Ideal) ℓ) (c : Dev nD)

/-- What the host has made of the arguments when the region starts. -/
theorem entry_stages : V0 m c = kEnd (kMid (kTop fun b => m (c, b))) := kernel_stages _

/-- The boxes moved apart by level. -/
abbrev moved : FVec Ideal S2000x4 .f32 := kMid (kTop fun b => m (c, b)) (Proc.devRef .tc main_call0_v54)

/-- Window 0's block is its whole array. -/
theorem block_0 (t : Fin cfg0.N) : iblk m c 0 t = V0 m c (Proc.devRef .tc main_call0_v58) := by
  obtain rfl := fin_N0 t
  have hz : (fun a => win0_0.index t0_0 a * main_call0_v58.ty.shape.size a) = fun _ => 0 := funext fun a => by fin_cases a <;> decide
  exact Memref.read_access_unit_zero (Elt Ideal) main_call0_v58 hz (fun a => by rw [congrFun hz a]; simp) _

/-- Window 1's block is its whole array. -/
theorem block_1 (t : Fin cfg0.N) : iblk m c 1 t = V0 m c (Proc.devRef .tc main_call0_v61) := by
  obtain rfl := fin_N0 t
  have hz : (fun a => win0_1.index t0_0 a * main_call0_v61.ty.shape.size a) = fun _ => 0 := funext fun a => by fin_cases a <;> decide
  exact Memref.read_access_unit_zero (Elt Ideal) main_call0_v61 hz (fun a => by rw [congrFun hz a]; simp) _

/-- Window 2's block is its whole array. -/
theorem block_2 (t : Fin cfg0.N) : iblk m c 2 t = V0 m c (Proc.devRef .tc main_call0_v64) := by
  obtain rfl := fin_N0 t
  have hz : (fun a => win0_2.index t0_0 a * main_call0_v64.ty.shape.size a) = fun _ => 0 := funext fun a => by fin_cases a <;> decide
  exact Memref.read_access_unit_zero (Elt Ideal) main_call0_v64 hz (fun a => by rw [congrFun hz a]; simp) _

/-- Window 3's block is its whole array. -/
theorem block_3 (t : Fin cfg0.N) : iblk m c 3 t = V0 m c (Proc.devRef .tc main_call0_v67) := by
  obtain rfl := fin_N0 t
  have hz : (fun a => win0_3.index t0_0 a * main_call0_v67.ty.shape.size a) = fun _ => 0 := funext fun a => by fin_cases a <;> decide
  exact Memref.read_access_unit_zero (Elt Ideal) main_call0_v67 hz (fun a => by rw [congrFun hz a]; simp) _

/-- Window 4's block is its whole array. -/
theorem block_4 (t : Fin cfg0.N) : iblk m c 4 t = V0 m c (Proc.devRef .tc main_call0_v70) := by
  obtain rfl := fin_N0 t
  have hz : (fun a => win0_4.index t0_0 a * main_call0_v70.ty.shape.size a) = fun _ => 0 := funext fun a => by fin_cases a <;> decide
  exact Memref.read_access_unit_zero (Elt Ideal) main_call0_v70 hz (fun a => by rw [congrFun hz a]; simp) _

/-- Window 5's block is its whole array. -/
theorem block_5 (t : Fin cfg0.N) : iblk m c 5 t = V0 m c (Proc.devRef .tc main_call0_v73) := by
  obtain rfl := fin_N0 t
  have hz : (fun a => win0_5.index t0_0 a * main_call0_v73.ty.shape.size a) = fun _ => 0 := funext fun a => by fin_cases a <;> decide
  exact Memref.read_access_unit_zero (Elt Ideal) main_call0_v73 hz (fun a => by rw [congrFun hz a]; simp) _

/-- Window 6's block is its whole array. -/
theorem block_6 (t : Fin cfg0.N) : iblk m c 6 t = V0 m c (Proc.devRef .tc main_call0_v76) := by
  obtain rfl := fin_N0 t
  have hz : (fun a => win0_6.index t0_0 a * main_call0_v76.ty.shape.size a) = fun _ => 0 := funext fun a => by fin_cases a <;> decide
  exact Memref.read_access_unit_zero (Elt Ideal) main_call0_v76 hz (fun a => by rw [congrFun hz a]; simp) _

/-- Window 7's block is its whole array. -/
theorem block_7 (t : Fin cfg0.N) : iblk m c 7 t = V0 m c (Proc.devRef .tc main_call0_v79) := by
  obtain rfl := fin_N0 t
  have hz : (fun a => win0_7.index t0_0 a * main_call0_v79.ty.shape.size a) = fun _ => 0 := funext fun a => by fin_cases a <;> decide
  exact Memref.read_access_unit_zero (Elt Ideal) main_call0_v79 hz (fun a => by rw [congrFun hz a]; simp) _

/-- The kernel is handed the boxes moved apart. -/
theorem handed (t : Fin cfg0.N) : Holds (boxAt (moved m c)) (iblk m c 0 t) (iblk m c 1 t) (iblk m c 2 t) (iblk m c 3 t)
    (iblk m c 4 t) (iblk m c 5 t) (iblk m c 6 t) (iblk m c 7 t) where
  c0 r := by rw [block_0, entry_stages]; exact staged_v58 _ r
  c1 r := by rw [block_1, entry_stages]; exact staged_v61 _ r
  c2 r := by rw [block_2, entry_stages]; exact staged_v64 _ r
  c3 r := by rw [block_3, entry_stages]; exact staged_v67 _ r
  r0 a b := by rw [block_4, entry_stages]; exact staged_v70 _ a b
  r1 a b := by rw [block_5, entry_stages]; exact staged_v73 _ a b
  r2 a b := by rw [block_6, entry_stages]; exact staged_v76 _ a b
  r3 a b := by rw [block_7, entry_stages]; exact staged_v79 _ a b

/-- What the region leaves in the result's buffer, entry by entry. -/
theorem outv_entry (t : Fin cfg0.N) (a : Fin 16) (b : Fin 128) :
    outv m c t (ix2 a b) = ind (kept (strikes (boxAt (moved m c))) (128 * a.val + b.val)) :=
  keep_entry (handed m c t) a b

/-- The result window's block of any array is that array. -/
theorem block_8 (X : FVec Ideal S16x128 .f32) : ((cfg0.win 8).blk t0_0).view.read (Elt Ideal) X = X := by
  have hz : (fun a => win0_8.index t0_0 a * main_call0_v80.ty.shape.size a) = fun _ => 0 := funext fun a => by fin_cases a <;> decide
  exact Memref.read_access_unit_zero (Elt Ideal) main_call0_v80 hz (fun a => by rw [congrFun hz a]; simp) X

/-- The block written back is the whole keep matrix. -/
theorem written (t : Fin cfg0.N) : (dats m 0 c).flushed 8 t = ((cfg0.win 8).blk t).view.read (Elt Ideal) (outv m c t0_0) := by
  obtain rfl := fin_N0 t
  exact ((block_8 _).trans (after_8 m c t0_0).symm).symm

/-- Every index lies in the block written back. -/
theorem covered (i : S16x128.Idx) : i ∈ ((View.whole main_call0_v80).slice (win0_8.rect t0_0)).set := by
  have hs : ∀ a : Fin 2, win0_8.index t0_0 a * win0_8.size a = 0 ∧ win0_8.xsize (grid0.coords t0_0) a = S16x128.size a := by decide +kernel
  rw [View.set_slice_whole, Rect.mem_set_unit]
  refine fun a => ⟨(hs a).1.le.trans (Nat.zero_le _), ((i a).isLt.trans_eq (hs a).2.symm).trans_le (Nat.le_add_left _ _)⟩

/-- So the region's result array ends holding the keep matrix. -/
theorem final_keep : (dats m 0 c).arrAt 8 cfg0.N = outv m c t0_0 :=
  (dats m 0 c).arrAt_eq_of_cover 8 (outv m c t0_0) (fun t _ => written m c t) fun i => ⟨t0_0, flush0_8 t0_0, covered i⟩

/-- Every array as the region leaves it. -/
abbrev exitVals : KV := Pipeline.withArrays spec0 c (V0 m c) fun w => (dats m 0 c).arrAt w cfg0.N

/-- The keep matrix, as the region leaves it. -/
theorem exit_keep : exitVals m c (Proc.devRef .tc main_call0_v80) = outv m c t0_0 :=
  (Pipeline.withArrays_arr spec0 (by decide) c (V0 m c) (fun w => (dats m 0 c).arrAt w cfg0.N) 8).trans (final_keep m c)

/-- An array the region does not touch. -/
theorem exit_rest (b : Ref sig .tc) (hb : ∀ w, Pipeline.arrRef spec0 w ≠ b) : exitVals m c (Proc.devRef .tc b) = V0 m c (Proc.devRef .tc b) :=
  Pipeline.withArrays_of_ne spec0 c (V0 m c) _ b hb

end Cert.KernelIdeal.Nms
-- ==== Proof.RefEntry.lean ====
/-
  What the reference's loop starts from: the matrix of overlap ratios of the boxes moved apart by level, the index
  row, the counter at zero and every box kept.
-/
module

public import proofs.«01_k».proof.Proof.HostSame
public import proofs.«01_k».proof.Proof.Overlap

@[expose] public section

set_option maxRecDepth 16384

noncomputable section

namespace Cert.Host

open Idealize.ShloMosaic Idealize.ShloMosaic.TcCoe Idealize.ShloMosaic.StableHlo
open Cert.ReferenceIdeal Cert.Greedy

variable (Y : RV)

/-- Box `i` of the array, as its four coordinates. -/
abbrev rowOf (S : FVec Ideal S2000x4 .f32) (i : Fin 2000) : Fin 4 → EReal := fun q => S (ix2 i q)

/-- The matrix holds the overlap ratio of every two boxes. -/
theorem start_ratio (i j : Fin 2000) : rEnd Y (Proc.devRef .tc main_v109_0) (ix2 i j)
    = ratio (rowOf (Y (Proc.devRef .tc main_v54)) i) (rowOf (Y (Proc.devRef .tc main_v54)) j) := by
  unfold rEnd
  after_reads_simp
  simp -implicitDefEqProofs only [id, TRef.toBuf, TRef.ofBuf, cast_cast, cast_eq]
  pointwise
  unfold ratio shared area rowOf
  simp only [max_comm _ (0 : EReal)]

/-- The index row counts from zero. -/
theorem start_index : rEnd Y (Proc.devRef .tc main_v109_1) = iotaInDim S2000 32 0 := by
  unfold rEnd
  after_reads_simp
  rfl

/-- The counter starts at zero. -/
theorem start_count : rEnd Y (Proc.devRef .tc main_v109_3) = constantI S_ 32 0#32 := by
  unfold rEnd
  after_reads_simp
  rfl

/-- Every box starts kept. -/
theorem start_keep (j : Fin 2000) : rEnd Y (Proc.devRef .tc main_v109_4) (ix1 j) = 1#1 := by
  unfold rEnd
  after_reads_simp
  simp only [id]
  pointwise

/-- The third stage leaves the boxes. -/
theorem rend_v30 : rEnd Y (Proc.devRef .tc main_v30) = Y (Proc.devRef .tc main_v30) := by
  unfold rEnd
  after_reads_simp

/-- The third stage leaves the marks. -/
theorem rend_v45 : rEnd Y (Proc.devRef .tc main_v45) = Y (Proc.devRef .tc main_v45) := by
  unfold rEnd
  after_reads_simp

/-- The third stage leaves the masked scores. -/
theorem rend_v46 : rEnd Y (Proc.devRef .tc main_v46) = Y (Proc.devRef .tc main_v46) := by
  unfold rEnd
  after_reads_simp

end Cert.Host
-- ==== Proof.RefKeep.lean ====
/-
  The reference's loop: after its trips the carried mask is the greedy choice over the overlap matrix it carries.
-/
module

public import proofs.«01_k».proof.Proof.Gen.ReferenceIdeal.Run
public import proofs.«01_k».proof.Proof.Overlap
public import Idealize.ShloMosaic.Lib.DynamicIndex

@[expose] public section

set_option maxRecDepth 16384

noncomputable section

namespace Cert.ReferenceIdeal.Greedy

open Cert.ReferenceIdeal Cert.ReferenceIdeal.Gen Cert.ReferenceIdeal.Value
open Idealize.ShloMosaic Idealize.ShloMosaic.TcCoe
open Cert.Greedy

/-- One trip on the mask: entry `j` is struck when `idx` is kept, overlaps `j` over the threshold and comes before it. -/
def trip (keep : IVec S2000 1) (idx : IVec S_ 32) (iou : FVec Ideal S2000x2000 .f32) (io : IVec S2000 32) : IVec S2000 1 :=
  id (andi keep (noti (andi (andi (broadcastInDim S2000 ![] bcast_S_S2000 (shapeCast S_ (Host.dynamicSlice S1 keep (fun k => (((![select (cmpi .slt idx (constantI S_ 32 0#32)) (addi (id idx) (constantI S_ 32 2000#32)) idx] : Fin 1 → (⟨S_, .i32⟩ : BufTy).Contents (Elt Ideal))) k (Shape.Idx.first h_S_)).toInt) sliceFits_S2000_S1) shapeCasts_S1_S_)) (cmpf .ogt (shapeCast S2000 (Host.dynamicSlice S1x2000 iou (fun k => (((![select (cmpi .slt (id idx) (constantI S_ 32 0#32)) (addi (id idx) (constantI S_ 32 2000#32)) (id idx), select (cmpi .slt (constantI S_ 32 0#32) (constantI S_ 32 0#32)) (addi (constantI S_ 32 0#32) (constantI S_ 32 2000#32)) (constantI S_ 32 0#32)] : Fin 2 → (⟨S_, .i32⟩ : BufTy).Contents (Elt Ideal))) k (Shape.Idx.first h_S_)).toInt) sliceFits_S2000x2000_S1x2000) shapeCasts_S1x2000_S2000) (broadcastInDim S2000 ![] bcast_S_S2000 (constant S_ .f32 0x3F333333#32)))) (cmpi .sgt io (broadcastInDim S2000 ![] bcast_S_S2000 (id idx))))))

/-- The mask's entry at the trip's index. -/
theorem slice_keep (x : IVec S2000 1) (start : Fin 1 → Int) (n : ℕ) (hn : n < 2000) (hs : start 0 = (n : Int)) :
    Host.dynamicSlice S1 x start sliceFits_S2000_S1
      = extractStridedSlice S1 ![n] x ⟨rfl, fun a => by fin_cases a; show n + 1 ≤ 2000; omega⟩ :=
  Host.dynamicSlice_eq_extractStridedSlice _ _ _ _ _ _ fun a => by fin_cases a; exact hs

/-- The matrix's row at the trip's index. -/
theorem slice_row (x : FVec Ideal S2000x2000 .f32) (start : Fin 2 → Int) (n : ℕ) (hn : n < 2000) (hs : start 0 = (n : Int)) (hs' : start 1 = 0) :
    Host.dynamicSlice S1x2000 x start sliceFits_S2000x2000_S1x2000
      = extractStridedSlice S1x2000 ![n, 0] x ⟨rfl, fun a => by fin_cases a; (show n + 1 ≤ 2000; omega); show 0 + 2000 ≤ 2000; omega⟩ :=
  Host.dynamicSlice_eq_extractStridedSlice _ _ _ _ _ _ fun a => by fin_cases a; exacts [hs, hs']

open scoped Classical in
/-- One trip at an entry, the mask being the indices no kept index below `n` strikes. -/
theorem trip_entry (keep : IVec S2000 1) (iou : FVec Ideal S2000x2000 .f32) (n : ℕ) (hn : n < 2000) (sup : ℕ → ℕ → Prop)
    (hk : ∀ j : Fin 2000, keep (ix1 j) = BitVec.ofBool (decide (clear sup n j.val)))
    (hM : ∀ i j : Fin 2000, Ideal.ofBits FTy.f32 1060320051#32 < (iou (ix2 i j) : EReal) ↔ sup i.val j.val) (j : Fin 2000) :
    trip keep (constantI S_ 32 (BitVec.ofNat 32 n)) iou (iotaInDim S2000 32 0) (ix1 j) = BitVec.ofBool (decide (clear sup (n + 1) j.val)) := by
  have hj := j.2
  unfold trip
  simp only [id]
  rw [slice_keep _ _ n hn (toInt_wrap_ofNat n (by omega)), slice_row _ _ n hn (toInt_wrap_ofNat n (by omega)) rfl]
  pointwise []
  rw [hk, hk, gt_word (by omega) (by omega), and_bits, and_bits]
  have hnot : ∀ (p : Prop) [Decidable p], ~~~(BitVec.ofBool (decide p)) = BitVec.ofBool (decide (¬p)) := fun p _ => by
    by_cases h : p <;> simp [h]
  rw [hnot, and_bits]
  refine congrArg BitVec.ofBool (decide_eq_decide.mpr ?_)
  rw [clear_succ]
  refine and_congr_right fun _ => not_congr ?_
  rw [hM, clear_kept sup (show (⟨n, hn⟩ : Fin 2000).val ≤ n from le_rfl)]
  exact ⟨fun ⟨⟨a, b⟩, c⟩ => ⟨⟨b, c⟩, a⟩, fun ⟨⟨b, c⟩, a⟩ => ⟨⟨a, b⟩, c⟩⟩

/-- The body's step of the mask is `trip` of the carried buffers. -/
theorem step_mask (V : Valuation τ sig (Elt Ideal)) :
    step_main_v109_4 V = trip (V (Proc.devRef .tc main_v109_4)) (V (Proc.devRef .tc main_v109_3)) (V (Proc.devRef .tc main_v109_0)) (V (Proc.devRef .tc main_v109_1)) := rfl

/-- The body's step of the index adds one. -/
theorem step_index (V : Valuation τ sig (Elt Ideal)) (n : ℕ)
    (h : V (Proc.devRef .tc main_v109_3) = constantI S_ 32 (BitVec.ofNat 32 n)) :
    step_main_v109_3 V = constantI S_ 32 (BitVec.ofNat 32 (n + 1)) := by
  unfold step_main_v109_3
  rw [h]
  funext y
  show BitVec.ofNat 32 n + 1#32 = BitVec.ofNat 32 (n + 1)
  rw [BitVec.ofNat_add]

open scoped Classical in
/-- The carried buffers after `n` trips. -/
theorem trips_value (V : Valuation τ sig (Elt Ideal)) (sup : ℕ → ℕ → Prop)
    (h1 : V (Proc.devRef .tc main_v109_1) = iotaInDim S2000 32 0) (h3 : V (Proc.devRef .tc main_v109_3) = constantI S_ 32 0#32)
    (h4 : ∀ j : Fin 2000, (V (Proc.devRef .tc main_v109_4) : IVec S2000 1) (ix1 j) = 1#1)
    (hM : ∀ i j : Fin 2000, Ideal.ofBits FTy.f32 1060320051#32 < ((V (Proc.devRef .tc main_v109_0) : FVec Ideal S2000x2000 .f32) (ix2 i j) : EReal) ↔ sup i.val j.val) :
    ∀ n, n ≤ 2000 → (STEP^[n] V) (Proc.devRef .tc main_v109_0) = V (Proc.devRef .tc main_v109_0)
      ∧ (STEP^[n] V) (Proc.devRef .tc main_v109_1) = iotaInDim S2000 32 0
      ∧ (STEP^[n] V) (Proc.devRef .tc main_v109_3) = constantI S_ 32 (BitVec.ofNat 32 n)
      ∧ ∀ j : Fin 2000, ((STEP^[n] V) (Proc.devRef .tc main_v109_4) : IVec S2000 1) (ix1 j) = BitVec.ofBool (decide (clear sup n j.val))
  | 0, _ => ⟨rfl, h1, h3, fun j => (h4 j).trans (by rw [decide_eq_true (clear_zero sup j.val)]; rfl)⟩
  | n + 1, hn => by
    obtain ⟨e0, e1, e3, e4⟩ := trips_value V sup h1 h3 h4 hM n (by omega)
    rw [Function.iterate_succ_apply', STEP_main_v109_0, STEP_main_v109_1, STEP_main_v109_3, STEP_main_v109_4]
    refine ⟨e0, e1, step_index _ n e3, fun j => ?_⟩
    rw [step_mask, e0, e1, e3]
    exact trip_entry _ _ n (by omega) sup e4 hM j

open scoped Classical in
/-- The mask the loop leaves is the greedy choice. -/
theorem mask_value (V : Valuation τ sig (Elt Ideal)) (sup : ℕ → ℕ → Prop)
    (h1 : V (Proc.devRef .tc main_v109_1) = iotaInDim S2000 32 0) (h3 : V (Proc.devRef .tc main_v109_3) = constantI S_ 32 0#32)
    (h4 : ∀ j : Fin 2000, (V (Proc.devRef .tc main_v109_4) : IVec S2000 1) (ix1 j) = 1#1)
    (hM : ∀ i j : Fin 2000, Ideal.ofBits FTy.f32 1060320051#32 < ((V (Proc.devRef .tc main_v109_0) : FVec Ideal S2000x2000 .f32) (ix2 i j) : EReal) ↔ sup i.val j.val)
    (j : Fin 2000) : ((STEP^[2000] V) (Proc.devRef .tc main_v109_4) : IVec S2000 1) (ix1 j) = BitVec.ofBool (decide (kept sup j.val)) := by
  rw [(trips_value V sup h1 h3 h4 hM 2000 le_rfl).2.2.2 j]
  exact congrArg BitVec.ofBool (decide_eq_decide.mpr (clear_kept sup j.2.le))

end Cert.ReferenceIdeal.Greedy
-- ==== Proof.Suffix.lean ====
/-
  After the greedy choice the kernel and the reference do the same: keep the masked scores of the boxes chosen, take
  the best 1000, and set their scores beside their boxes.
-/
module

public import proofs.«01_k».proof.Proof.HostSame
public import proofs.«01_k».proof.Proof.Overlap

@[expose] public section

set_option maxRecDepth 16384

noncomputable section

namespace Cert.Host

open Idealize.ShloMosaic Idealize.ShloMosaic.TcCoe Idealize.ShloMosaic.StableHlo

/-- What the reference does after its loop. -/
abbrev rPost (Z : RV) : RV := afterL Cert.ReferenceIdeal.Value.postI Z

/-- Boxes set beside scores, part by part. -/
theorem beside_congr {a a' : FVec Ideal Cert.KernelIdeal.S1000x4 .f32} {b b' : FVec Ideal Cert.KernelIdeal.S1000x1 .f32} {h h'} (ha : a = a') (hb : b = b') :
    concatenate Cert.KernelIdeal.S1000x5 1 [⟨Cert.KernelIdeal.S1000x4, a⟩, ⟨Cert.KernelIdeal.S1000x1, b⟩] h
      = concatenate Cert.KernelIdeal.S1000x5 1 [⟨Cert.KernelIdeal.S1000x4, a'⟩, ⟨Cert.KernelIdeal.S1000x1, b'⟩] h' := by
  subst ha hb; rfl

/-- Both programs gather the chosen boxes the same way. -/
theorem gather_best : Cert.KernelIdeal.gather_S2000x4_S1000x1_S1000x4_1_0_n_n_0_1_14 = Cert.ReferenceIdeal.gather_S2000x4_S1000x1_S1000x4_1_0_n_n_0_1_14 := rfl

/-- The kernel's marks: where the keep matrix, laid out flat and cut to 2000, is over a half. -/
def chosen (K : FVec Ideal Cert.KernelIdeal.S16x128 .f32) : IVec Cert.KernelIdeal.S2000 1 :=
  cmpf CmpFPredicate.ogt (extractStridedSlice Cert.KernelIdeal.S2000 ![0]
      (shapeCast Cert.KernelIdeal.S2048 K Cert.KernelIdeal.Gen.shapeCasts_S16x128_S2048) Cert.KernelIdeal.Gen.slices_S2048_S2000_0)
    (broadcastInDim Cert.KernelIdeal.S2000 ![] Cert.KernelIdeal.Gen.bcast_S_S2000 (constant Cert.KernelIdeal.S_ .f32 0x3F000000#32))

open scoped Classical in
/-- A mark is set exactly when its entry is over a half. -/
theorem chosen_entry (K : FVec Ideal Cert.KernelIdeal.S16x128 .f32) (j : Fin 2000) :
    chosen K (ix1 j) = BitVec.ofBool (decide (Ideal.ofBits FTy.f32 0x3F000000#32
      < (K (ix2 (⟨j.val / 128, by have := j.2; omega⟩ : Fin 16) (⟨j.val % 128, by have := j.2; omega⟩ : Fin 128)) : EReal))) := by
  unfold chosen
  pointwise

/-- From the same marks, boxes and scores both end with the same result. -/
theorem same_result (Z : KV) (Z' : RV)
    (hk : chosen (Z (Proc.devRef .tc Cert.KernelIdeal.main_call0_v80)) = Z' (Proc.devRef .tc Cert.ReferenceIdeal.main_v109_4))
    (h30 : Z (Proc.devRef .tc Cert.KernelIdeal.main_call0_v30) = Z' (Proc.devRef .tc Cert.ReferenceIdeal.main_v30))
    (h45 : Z (Proc.devRef .tc Cert.KernelIdeal.main_call0_v45) = Z' (Proc.devRef .tc Cert.ReferenceIdeal.main_v45))
    (h46 : Z (Proc.devRef .tc Cert.KernelIdeal.main_call0_v46) = Z' (Proc.devRef .tc Cert.ReferenceIdeal.main_v46))
    : after Cert.KernelIdeal.Gen.hostOps1 Z (Proc.devRef .tc Cert.KernelIdeal.main_v0) = rPost Z' (Proc.devRef .tc Cert.ReferenceIdeal.main_v120) := by
  unfold rPost Cert.ReferenceIdeal.Value.postI
  simp only [afterL_cons, afterL_nil]
  after_reads_simp
  simp -implicitDefEqProofs only [TRef.toBuf, TRef.ofBuf, cast_cast, cast_eq]
  refine beside_congr (h := Cert.KernelIdeal.Gen.concatenates_S1000x4_S1000x1_S1000x5_d1) (h' := Cert.KernelIdeal.Gen.concatenates_S1000x4_S1000x1_S1000x5_d1) ?_ ?_
  · after_reads_simp
    rw [h30, h45, h46]
    simp -implicitDefEqProofs only [TRef.toBuf, TRef.ofBuf, cast_cast, cast_eq, gather_best]
    rw [← hk]
    rfl
  · after_reads_simp
    rw [h45, h46]
    simp -implicitDefEqProofs only [TRef.toBuf, TRef.ofBuf, cast_cast, cast_eq]
    rw [← hk]
    rfl
end Cert.Host
-- ==== Proof.Equal.lean ====
/-
  The equation: at exact extended reals the kernel and the reference, from the same arguments, end with the same array.
-/
module

public import proofs.«01_k».proof.Proof.IdealResult
public import proofs.«01_k».proof.Proof.RefEntry
public import proofs.«01_k».proof.Proof.RefFrame
public import proofs.«01_k».proof.Proof.RefKeep
public import proofs.«01_k».proof.Proof.Suffix

@[expose] public section

set_option maxRecDepth 16384

noncomputable section

namespace Cert.Equal

open Cert.Host Cert.Greedy
open Idealize.ShloMosaic Idealize.ShloMosaic.TcCoe Idealize.ShloMosaic.StableHlo
open Idealize.SL Idealize.SL.Sem
open Cert.ReferenceIdeal.Value (preI bodyI postI condOps atK)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's arrays as launched. -/
abbrev kArgs : KV := fun b => m (c, b)
/-- The reference's arrays as launched. -/
abbrev rArgs : RV := fun b => m' (c, b)
/-- The reference's boxes moved apart by level. -/
abbrev rMoved : FVec Ideal Cert.ReferenceIdeal.S2000x4 .f32 := rMid (rTop (rArgs m' c)) (Proc.devRef .tc Cert.ReferenceIdeal.main_v54)

/-- What the reference's loop finds. -/
theorem loop_entry : entryContents preI m' c = rEnd (rMid (rTop (rArgs m' c))) := reference_stages _

/-- Rows of the array are the boxes. -/
theorem boxAt_row (S : FVec Ideal Cert.KernelIdeal.S2000x4 .f32) (i : Fin 2000) : boxAt S i.val = rowOf S i := by
  funext q
  exact dif_pos i.2

open scoped Classical in
/-- The reference's marks after its loop are the greedy choice over the boxes moved apart. -/
theorem ref_mask (j : Fin 2000) : (after condOps (atK m' 2000 c) (Proc.devRef .tc Cert.ReferenceIdeal.main_v109_4) : IVec Cert.ReferenceIdeal.S2000 1) (ix1 j)
    = BitVec.ofBool (decide (kept (Cert.KernelIdeal.Nms.strikes (boxAt (rMoved m' c))) j.val)) := by
  rw [Cert.ReferenceIdeal.Value.cond_keeps _ Cert.ReferenceIdeal.main_v109_4 (by decide),
    Cert.ReferenceIdeal.Value.atK_agree m' c 2000 Cert.ReferenceIdeal.main_v109_4 (by decide), loop_entry]
  refine Cert.ReferenceIdeal.Greedy.mask_value _ _ (start_index _) (start_count _) (start_keep _) (fun i k => ?_) j
  rw [start_ratio]
  unfold Cert.KernelIdeal.Nms.strikes over
  rw [boxAt_row, boxAt_row]

/-- A reference the loop and its condition leave alone. -/
theorem ref_rest (b : Ref Cert.ReferenceIdeal.sig .tc) (hc : b ∉ Cert.ReferenceIdeal.Value.condOps_W) (hb : b ∉ Cert.ReferenceIdeal.Value.while0Ops0_W) :
    after condOps (atK m' 2000 c) (Proc.devRef .tc b) = rEnd (rMid (rTop (rArgs m' c))) (Proc.devRef .tc b) := by
  rw [after_of_writes_sub _ _ Cert.ReferenceIdeal.Value.condOps_writes hc, Cert.ReferenceIdeal.Greedy.trips_keep m' c b hc hb 2000, loop_entry]

variable {m m' c}

open scoped Classical in
/-- The kernel's marks are the reference's. -/
theorem same_marks (h : SameArgs (kArgs m c) (rArgs m' c)) :
    chosen (Cert.KernelIdeal.Nms.exitVals m c (Proc.devRef .tc Cert.KernelIdeal.main_call0_v80))
      = after condOps (atK m' 2000 c) (Proc.devRef .tc Cert.ReferenceIdeal.main_v109_4) := by
  have hS : Cert.KernelIdeal.Nms.moved m c = rMoved m' c := (same_mid (same_top h)).shifted
  funext i
  obtain ⟨j, rfl⟩ : ∃ j : Fin 2000, i = ix1 j := ⟨i 0, by funext a; fin_cases a; rfl⟩
  refine Eq.trans ?_ (ref_mask m' c j).symm
  rw [Cert.KernelIdeal.Nms.exit_keep, chosen_entry, Cert.KernelIdeal.Nms.outv_entry, ← hS]
  congr 1
  refine decide_eq_decide.mpr ((half_lt_ind _).trans ?_)
  show kept _ (128 * (j.val / 128) + j.val % 128) ↔ _
  rw [Nat.div_add_mod]

/-- The two results are the same array. -/
theorem results (h : SameArgs (kArgs m c) (rArgs m' c)) :
    Pipeline.afterTail₀ Cert.KernelIdeal.cfgs (Cert.KernelIdeal.Nms.dats m) 0 (Cert.KernelIdeal.Gen.V0 m) [Cert.KernelIdeal.Gen.hostOps1] c Cert.KernelIdeal.main_v0
      = finalContents condOps preI bodyI postI 2000 m' c (Proc.devRef .tc Cert.ReferenceIdeal.main_v120) := by
  have hm := same_mid (same_top h)
  refine same_result (Cert.KernelIdeal.Nms.exitVals m c) (after condOps (atK m' 2000 c)) (same_marks h) ?_ ?_ ?_
  · rw [Cert.KernelIdeal.Nms.exit_rest m c Cert.KernelIdeal.main_call0_v30 (by decide), Cert.KernelIdeal.Nms.entry_stages, end_v30,
      ref_rest m' c Cert.ReferenceIdeal.main_v30 (by decide) (by decide), rend_v30]
    exact hm.boxes
  · rw [Cert.KernelIdeal.Nms.exit_rest m c Cert.KernelIdeal.main_call0_v45 (by decide), Cert.KernelIdeal.Nms.entry_stages, end_v45,
      ref_rest m' c Cert.ReferenceIdeal.main_v45 (by decide) (by decide), rend_v45]
    exact hm.valid
  · rw [Cert.KernelIdeal.Nms.exit_rest m c Cert.KernelIdeal.main_call0_v46 (by decide), Cert.KernelIdeal.Nms.entry_stages, end_v46,
      ref_rest m' c Cert.ReferenceIdeal.main_v46 (by decide) (by decide), rend_v46]
    exact hm.masked

end Cert.Equal
-- ==== Proof.lean ====
module

public import proofs.«01_k».proof.Defs
public import proofs.«01_k».proof.Proof.DeviceRun
public import proofs.«01_k».proof.Proof.IdealRun
public import proofs.«01_k».proof.Proof.RefFrame
public import proofs.«01_k».proof.Proof.Equal
public import Idealize.ShloMosaic.Adequacy
public import Idealize.ShloMosaic.Init
public import Idealize.ShloMosaic.Lib.Claim

@[expose] public section

noncomputable section

namespace Cert.Proof

open Idealize.ShloMosaic
open Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts

/-- The kernel's program, on floats as bits, runs, leaves its arguments as they were and every semaphore at zero. -/
theorem frame_p : Cert.quiescent_Kernel := fun m ρ _ => Cert.Kernel.Nms.frame_main (F := Bits) m ρ

/-- The kernel's program, on exact extended reals, runs, leaves its arguments as they were and every semaphore at zero. -/
theorem frame_pi : Cert.quiescent_KernelIdeal := fun m ρ _ => Cert.KernelIdeal.Nms.frame_main (F := Ideal) m ρ

/-- The reference's program runs, leaves its arguments as they were and every semaphore at zero. -/
theorem frame_ri : Cert.quiescent_ReferenceIdeal := fun m ρ _ =>
  (θ_run (Cert.ReferenceIdeal.defs (F := Ideal)) _ _).mono (fun _ h => ⟨fun c => (h.1 c).2, h.2⟩)
    (Cert.ReferenceIdeal.Greedy.run_main (F := Ideal) m ρ)

/-- From the same arguments the kernel's and the reference's programs, on exact extended reals, end with the same result. -/
theorem same_result : Cert.algebraic_KernelIdeal_ReferenceIdeal := fun m g m' g' _ hargs =>
  ⟨fun c => Pipeline.afterTail₀ Cert.KernelIdeal.cfgs (Cert.KernelIdeal.Nms.dats m) 0 (Cert.KernelIdeal.Gen.V0 m) [Cert.KernelIdeal.Gen.hostOps1] c Cert.KernelIdeal.main_v0,
    (θ_run (Cert.KernelIdeal.defs (F := Ideal)) _ _).mono
      (fun _ h c => ⟨(h.1.1 c).2 Cert.KernelIdeal.main_v0 (Pipeline.mem_restRefs_of Cert.KernelIdeal.main_v0 (by decide) (by decide)), h.2.1 c⟩)
      (θ_run_and (Cert.KernelIdeal.Nms.run_main (F := Ideal) m g) (Cert.KernelIdeal.Nms.frame_main (F := Ideal) m g)),
    (θ_run (Cert.ReferenceIdeal.defs (F := Ideal)) _ _).mono
      (fun _ h c => ⟨(h.1 c).1.trans (Cert.Equal.results
        { boxes := (hargs c).1.symm, scores := (hargs c).2.1.symm, levels := (hargs c).2.2.symm }).symm, (h.1 c).2⟩)
      (Cert.ReferenceIdeal.Greedy.run_main (F := Ideal) m' g')⟩

/-- The certificate. -/
theorem claim : Cert.Claim :=
  ⟨Cert.Kernel.Gen.facts, Cert.KernelIdeal.Gen.facts, Cert.ReferenceIdeal.Gen.facts, frame_p, frame_pi, frame_ri, trivial, same_result⟩

end Cert.Proof
